-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  IdealRules.named_const.Statement Cert.KernelIdeal.κ "minus_inf" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_v61) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S4x8192x384 : Shape := ⟨3, ![4, 8192, 384]⟩
abbrev S4x8192x6x32 : Shape := ⟨4, ![4, 8192, 6, 32]⟩
abbrev S6 : Shape := ⟨1, ![6]⟩
abbrev S_ : Shape := ⟨0, ![]⟩
abbrev S4x6x8192x64 : Shape := ⟨4, ![4, 6, 8192, 64]⟩
abbrev S8192x32 : Shape := ⟨2, ![8192, 32]⟩
abbrev S4x6x8192x32 : Shape := ⟨4, ![4, 6, 8192, 32]⟩
abbrev S1x1x8192x32 : Shape := ⟨4, ![1, 1, 8192, 32]⟩
abbrev S8192x1 : Shape := ⟨2, ![8192, 1]⟩
abbrev S1x8192x1 : Shape := ⟨3, ![1, 8192, 1]⟩
abbrev S6x1x1 : Shape := ⟨3, ![6, 1, 1]⟩
abbrev S6x8192x1 : Shape := ⟨3, ![6, 8192, 1]⟩
abbrev S4x8192x6x64 : Shape := ⟨4, ![4, 8192, 6, 64]⟩
abbrev S4x6x8192x3 : Shape := ⟨4, ![4, 6, 8192, 3]⟩
abbrev S4x6x8192x29 : Shape := ⟨4, ![4, 6, 8192, 29]⟩
abbrev S4x6x8192x128 : Shape := ⟨4, ![4, 6, 8192, 128]⟩
abbrev S4x6x8192x1 : Shape := ⟨4, ![4, 6, 8192, 1]⟩
abbrev S4x6x8192x63 : Shape := ⟨4, ![4, 6, 8192, 63]⟩
abbrev S1x2x256x128 : Shape := ⟨4, ![1, 2, 256, 128]⟩
abbrev S1x2x8192x128 : Shape := ⟨4, ![1, 2, 8192, 128]⟩
abbrev S1x256x128 : Shape := ⟨3, ![1, 256, 128]⟩
abbrev S2x2x256x2048 : Shape := ⟨4, ![2, 2, 256, 2048]⟩
abbrev S2x2x256x1 : Shape := ⟨4, ![2, 2, 256, 1]⟩
abbrev S2x256x1 : Shape := ⟨3, ![2, 256, 1]⟩
abbrev S2x256x128 : Shape := ⟨3, ![2, 256, 128]⟩
abbrev S1x1x256x128 : Shape := ⟨4, ![1, 1, 256, 128]⟩
abbrev S256x128 : Shape := ⟨2, ![256, 128]⟩
abbrev S1x1x2048x128 : Shape := ⟨4, ![1, 1, 2048, 128]⟩
abbrev S2048x128 : Shape := ⟨2, ![2048, 128]⟩
abbrev S256x2048 : Shape := ⟨2, ![256, 2048]⟩
abbrev S1x1x256x2048 : Shape := ⟨4, ![1, 1, 256, 2048]⟩
abbrev S256 : Shape := ⟨1, ![256]⟩
abbrev S256x1 : Shape := ⟨2, ![256, 1]⟩
abbrev S1x1x256x1 : Shape := ⟨4, ![1, 1, 256, 1]⟩
abbrev S256x256 : Shape := ⟨2, ![256, 256]⟩
abbrev S1x256x1 : Shape := ⟨3, ![1, 256, 1]⟩

abbrev nBuf : Space → Nat
  | .hbm => 109
  | .vmem => 12
  | .smem => 0
  | _ => 0

abbrev bufTy : (tb : Table) → Fin (tcTables nBuf tb) → BufTy
  | .hbm, ⟨0, _⟩ => ⟨S4x8192x384, .f32⟩
  | .hbm, ⟨1, _⟩ => ⟨S4x8192x384, .f32⟩
  | .hbm, ⟨2, _⟩ => ⟨S4x8192x384, .f32⟩
  | .hbm, ⟨3, _⟩ => ⟨S4x8192x6x32, .i32⟩
  | .hbm, ⟨4, _⟩ => ⟨S6, .f32⟩
  | .hbm, ⟨5, _⟩ => ⟨S_, .f32⟩
  | .hbm, ⟨6, _⟩ => ⟨S6, .f32⟩
  | .hbm, ⟨7, _⟩ => ⟨S6, .f32⟩
  | .hbm, ⟨8, _⟩ => ⟨S_, .f32⟩
  | .hbm, ⟨9, _⟩ => ⟨S6, .f32⟩
  | .hbm, ⟨10, _⟩ => ⟨S6, .f32⟩
  | .hbm, ⟨11, _⟩ => ⟨S_, .f32⟩
  | .hbm, ⟨12, _⟩ => ⟨S6, .f32⟩
  | .hbm, ⟨13, _⟩ => ⟨S6, .f32⟩
  | .hbm, ⟨14, _⟩ => ⟨S_, .f32⟩
  | .hbm, ⟨15, _⟩ => ⟨S6, .f32⟩
  | .hbm, ⟨16, _⟩ => ⟨S6, .f32⟩
  | .hbm, ⟨17, _⟩ => ⟨S6, .f32⟩
  | .hbm, ⟨18, _⟩ => ⟨S_, .f32⟩
  | .hbm, ⟨19, _⟩ => ⟨S4x6x8192x64, .f32⟩
  | .hbm, ⟨20, _⟩ => ⟨S8192x32, .i32⟩
  | .hbm, ⟨21, _⟩ => ⟨S8192x32, .i32⟩
  | .hbm, ⟨22, _⟩ => ⟨S_, .i32⟩
  | .hbm, ⟨23, _⟩ => ⟨S_, .i32⟩
  | .hbm, ⟨24, _⟩ => ⟨S8192x32, .i32⟩
  | .hbm, ⟨25, _⟩ => ⟨S8192x32, .i32⟩
  | .hbm, ⟨26, _⟩ => ⟨S8192x32, .i32⟩
  | .hbm, ⟨27, _⟩ => ⟨S_, .i32⟩
  | .hbm, ⟨28, _⟩ => ⟨S8192x32, .i32⟩
  | .hbm, ⟨29, _⟩ => ⟨S8192x32, .i1⟩
  | .hbm, ⟨30, _⟩ => ⟨S8192x32, .i32⟩
  | .hbm, ⟨31, _⟩ => ⟨S8192x32, .i32⟩
  | .hbm, ⟨32, _⟩ => ⟨S_, .i32⟩
  | .hbm, ⟨33, _⟩ => ⟨S8192x32, .i32⟩
  | .hbm, ⟨34, _⟩ => ⟨S8192x32, .i1⟩
  | .hbm, ⟨35, _⟩ => ⟨S8192x32, .i1⟩
  | .hbm, ⟨36, _⟩ => ⟨S_, .i32⟩
  | .hbm, ⟨37, _⟩ => ⟨S8192x32, .i32⟩
  | .hbm, ⟨38, _⟩ => ⟨S8192x32, .i32⟩
  | .hbm, ⟨39, _⟩ => ⟨S8192x32, .i32⟩
  | .hbm, ⟨40, _⟩ => ⟨S4x6x8192x32, .i32⟩
  | .hbm, ⟨41, _⟩ => ⟨S_, .i32⟩
  | .hbm, ⟨42, _⟩ => ⟨S4x6x8192x32, .i32⟩
  | .hbm, ⟨43, _⟩ => ⟨S4x6x8192x32, .i1⟩
  | .hbm, ⟨44, _⟩ => ⟨S8192x32, .i1⟩
  | .hbm, ⟨45, _⟩ => ⟨S1x1x8192x32, .i1⟩
  | .hbm, ⟨46, _⟩ => ⟨S4x6x8192x32, .i1⟩
  | .hbm, ⟨47, _⟩ => ⟨S4x6x8192x32, .i1⟩
  | .hbm, ⟨48, _⟩ => ⟨S_, .f32⟩
  | .hbm, ⟨49, _⟩ => ⟨S_, .f32⟩
  | .hbm, ⟨50, _⟩ => ⟨S4x6x8192x32, .f32⟩
  | .hbm, ⟨51, _⟩ => ⟨S4x6x8192x32, .f32⟩
  | .hbm, ⟨52, _⟩ => ⟨S4x6x8192x32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192x1, .i32⟩
  | .hbm, ⟨58, _⟩ => ⟨S8192x1, .f32⟩
  | .hbm, ⟨59, _⟩ => ⟨S1x8192x1, .f32⟩
  | .hbm, ⟨60, _⟩ => ⟨S6x1x1, .f32⟩
  | .hbm, ⟨61, _⟩ => ⟨S6x1x1, .f32⟩
  | .hbm, ⟨62, _⟩ => ⟨S6x1x1, .f32⟩
  | .hbm, ⟨63, _⟩ => ⟨S6x8192x1, .f32⟩
  | .hbm, ⟨64, _⟩ => ⟨S6x8192x1, .f32⟩
  | .hbm, ⟨65, _⟩ => ⟨S6x8192x1, .f32⟩
  | .hbm, ⟨66, _⟩ => ⟨S6x8192x1, .bf16⟩
  | .hbm, ⟨67, _⟩ => ⟨S6x8192x1, .f32⟩
  | .hbm, ⟨68, _⟩ => ⟨S6x8192x1, .f32⟩
  | .hbm, ⟨69, _⟩ => ⟨S6x8192x1, .bf16⟩
  | .hbm, ⟨70, _⟩ => ⟨S6x8192x1, .f32⟩
  | .hbm, ⟨71, _⟩ => ⟨S6x8192x1, .f32⟩
  | .hbm, ⟨72, _⟩ => ⟨S6x8192x1, .f32⟩
  | .hbm, ⟨73, _⟩ => ⟨S8192x32, .i1⟩
  | .hbm, ⟨74, _⟩ => ⟨S_, .f32⟩
  | .hbm, ⟨75, _⟩ => ⟨S_, .f32⟩
  | .hbm, ⟨76, _⟩ => ⟨S8192x32, .f32⟩
  | .hbm, ⟨77, _⟩ => ⟨S8192x32, .f32⟩
  | .hbm, ⟨78, _⟩ => ⟨S8192x32, .f32⟩
  | .hbm, ⟨79, _⟩ => ⟨S4x8192x6x64, .f32⟩
  | .hbm, ⟨80, _⟩ => ⟨S4x6x8192x64, .f32⟩
  | .hbm, ⟨81, _⟩ => ⟨S_, .f32⟩
  | .hbm, ⟨82, _⟩ => ⟨S_, .f32⟩
  | .hbm, ⟨83, _⟩ => ⟨S4x6x8192x64, .f32⟩
  | .hbm, ⟨84, _⟩ => ⟨S4x6x8192x64, .f32⟩
  | .hbm, ⟨85, _⟩ => ⟨S_, .f32⟩
  | .hbm, ⟨86, _⟩ => ⟨S4x6x8192x3, .f32⟩
  | .hbm, ⟨87, _⟩ => ⟨S4x6x8192x29, .f32⟩
  | .hbm, ⟨88, _⟩ => ⟨S4x6x8192x32, .f32⟩
  | .hbm, ⟨89, _⟩ => ⟨S4x6x8192x128, .f32⟩
  | .hbm, ⟨90, _⟩ => ⟨S4x8192x6x64, .f32⟩
  | .hbm, ⟨91, _⟩ => ⟨S4x6x8192x64, .f32⟩
  | .hbm, ⟨92, _⟩ => ⟨S4x6x8192x32, .f32⟩
  | .hbm, ⟨93, _⟩ => ⟨S4x6x8192x1, .f32⟩
  | .hbm, ⟨94, _⟩ => ⟨S4x6x8192x1, .f32⟩
  | .hbm, ⟨95, _⟩ => ⟨S4x6x8192x1, .f32⟩
  | .hbm, ⟨96, _⟩ => ⟨S4x6x8192x29, .f32⟩
  | .hbm, ⟨97, _⟩ => ⟨S4x6x8192x32, .f32⟩
  | .hbm, ⟨98, _⟩ => ⟨S4x6x8192x128, .f32⟩
  | .hbm, ⟨99, _⟩ => ⟨S4x8192x6x64, .f32⟩
  | .hbm, ⟨100, _⟩ => ⟨S4x6x8192x64, .f32⟩
  | .hbm, ⟨101, _⟩ => ⟨S_, .f32⟩
  | .hbm, ⟨102, _⟩ => ⟨S4x6x8192x1, .f32⟩
  | .hbm, ⟨103, _⟩ => ⟨S4x6x8192x63, .f32⟩
  | .hbm, ⟨104, _⟩ => ⟨S4x6x8192x128, .f32⟩
  | .hbm, ⟨105, _⟩ => ⟨S4x6x8192x128, .bf16⟩
  | .hbm, ⟨106, _⟩ => ⟨S4x6x8192x128, .bf16⟩
  | .hbm, ⟨107, _⟩ => ⟨S4x6x8192x128, .bf16⟩
  | .hbm, ⟨108, _⟩ => ⟨S4x8192x384, .bf16⟩
  | .local _ .vmem, ⟨0, _⟩ => ⟨S1x2x256x128, .bf16⟩
  | .local _ .vmem, ⟨1, _⟩ => ⟨S1x2x256x128, .bf16⟩
  | .local _ .vmem, ⟨2, _⟩ => ⟨S1x2x8192x128, .bf16⟩
  | .local _ .vmem, ⟨3, _⟩ => ⟨S1x2x8192x128, .bf16⟩
  | .local _ .vmem, ⟨4, _⟩ => ⟨S1x2x8192x128, .bf16⟩
  | .local _ .vmem, ⟨5, _⟩ => ⟨S1x2x8192x128, .bf16⟩
  | .local _ .vmem, ⟨6, _⟩ => ⟨S1x256x128, .bf16⟩
  | .local _ .vmem, ⟨7, _⟩ => ⟨S1x256x128, .bf16⟩
  | .local _ .vmem, ⟨8, _⟩ => ⟨S2x2x256x2048, .f32⟩
  | .local _ .vmem, ⟨9, _⟩ => ⟨S2x2x256x1, .f32⟩
  | .local _ .vmem, ⟨10, _⟩ => ⟨S2x256x1, .f32⟩
  | .local _ .vmem, ⟨11, _⟩ => ⟨S2x256x128, .f32⟩
  | _, _ => ⟨S4x8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v13 : Ref sig .tc := ⟨.hbm, 39, rfl⟩
abbrev main_v14 : Ref sig .tc := ⟨.hbm, 40, rfl⟩
abbrev main_c_4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_5 : Ref sig .tc := ⟨.hbm, 48, rfl⟩
abbrev main_cst_6 : Ref sig .tc := ⟨.hbm, 49, rfl⟩
abbrev main_call1_v0 : Ref sig .tc := ⟨.hbm, 50, rfl⟩
abbrev main_call1_v1 : Ref sig .tc := ⟨.hbm, 51, rfl⟩
abbrev main_v21 : Ref sig .tc := ⟨.hbm, 52, rfl⟩
abbrev main_cst_7 : Ref sig .tc := ⟨.hbm, 53, rfl⟩
abbrev main_v22 : Ref sig .tc := ⟨.hbm, 54, rfl⟩
abbrev main_cst_8 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_9 : Ref sig .tc := ⟨.hbm, 74, rfl⟩
abbrev main_cst_10 : Ref sig .tc := ⟨.hbm, 75, rfl⟩
abbrev main_call2_v0 : Ref sig .tc := ⟨.hbm, 76, rfl⟩
abbrev main_call2_v1 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_11 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_12 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_13 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 3, 32], ![false, false, false]⟩

def k0_mult1 : BitVec 32 :=
  let c0_i32_12 : BitVec 32 := 0#32
  c0_i32_12
def k0_mult2 : BitVec 32 :=
  let c0_i32_25 : BitVec 32 := 0#32
  c0_i32_25
def k0_mult3 (i : grid0.Coords) : BitVec 32 :=
  let arg2 : BitVec 32 := BitVec.ofNat 32 (i 2).val
  let c256_i32_39 : BitVec 32 := 256#32
  let v51 : BitVec 32 := Scalar.muli arg2 c256_i32_39
  v51
def k0_off1 (i : grid0.Coords) : Fin 4 → Nat :=
  let c0_40 : Index := 0#32
  let c0_41 : Index := 0#32
  let arg2 : BitVec 32 := BitVec.ofNat 32 (i 2).val
  let c256_i32_39 : BitVec 32 := 256#32
  let v51 : BitVec 32 := Scalar.muli arg2 c256_i32_39
  let v52 : BitVec 32 := v51
  let v61 : Index := Scalar.indexCast v52
  let c0_42 : Index := 0#32
  ![0, 0, v61.toNat, 0]
def k0_off2 (i : grid0.Coords) : Fin 4 → Nat :=
  let c0_57 : Index := 0#32
  let c1_58 : Index := 1#32
  let arg2 : BitVec 32 := BitVec.ofNat 32 (i 2).val
  let c256_i32_39 : BitVec 32 := 256#32
  let v51 : BitVec 32 := Scalar.muli arg2 c256_i32_39
  let v52 : BitVec 32 := v51
  let v85 : Index := Scalar.indexCast v52
  let c0_59 : Index := 0#32
  ![0, 1, v85.toNat, 0]
@[reducible] def k0_t1_loop (i : grid0.Coords) : Scf.Loop 32 :=
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_78 : BitVec 32 := 1#32
  ⟨c0_i32_76, v114, c1_i32_78⟩
def k0_off3 (i : grid0.Coords) (k0_t1 : Fin (k0_t1_loop i).trips) : Fin 4 → Nat :=
  let c0_i32_76 : BitVec 32 := 0#32
  let c1_i32_78 : BitVec 32 := 1#32
  let arg11 : BitVec 32 := Scf.iv c0_i32_76 c1_i32_78 k0_t1
  let c2_i32_152 : BitVec 32 := 2#32
  let c0_i32_153 : BitVec 32 := 0#32
  let v217 : BitVec 1 := Scalar.cmpi .eq c2_i32_152 c0_i32_153
  let c1_i32_154 : BitVec 32 := 1#32
  let v218 : BitVec 32 := Scalar.select v217 c1_i32_154 c2_i32_152
  let v219 : BitVec 32 := Scalar.remsi arg11 v218
  let c0_i32_156 : BitVec 32 := 0#32
  let v221 : BitVec 1 := Scalar.cmpi .slt v219 c0_i32_156
  let c0_i32_157 : BitVec 32 := 0#32
  let v222 : BitVec 1 := Scalar.cmpi .slt v218 c0_i32_157
  let v223 : BitVec 1 := Scalar.xori v221 v222
  let c0_i32_155 : BitVec 32 := 0#32
  let v220 : BitVec 1 := Scalar.cmpi .ne v219 c0_i32_155
  let v224 : BitVec 1 := Scalar.andi v223 v220
  let v225 : BitVec 32 := Scalar.addi v219 v218
  let v226 : BitVec 32 := Scalar.select v224 v225 v219
  let v229 : Index := Scalar.indexCast v226
  let c0_161 : Index := 0#32
  let c0_162 : Index := 0#32
  let c0_163 : Index := 0#32
  ![v229.toNat, 0, 0, 0]
def k0_off4 (i : grid0.Coords) (k0_t1 : Fin (k0_t1_loop i).trips) : Fin 4 → Nat :=
  let c0_i32_76 : BitVec 32 := 0#32
  let c1_i32_78 : BitVec 32 := 1#32
  let arg11 : BitVec 32 := Scf.iv c0_i32_76 c1_i32_78 k0_t1
  let c2_i32_152 : BitVec 32 := 2#32
  let c0_i32_153 : BitVec 32 := 0#32
  let v217 : BitVec 1 := Scalar.cmpi .eq c2_i32_152 c0_i32_153
  let c1_i32_154 : BitVec 32 := 1#32
  let v218 : BitVec 32 := Scalar.select v217 c1_i32_154 c2_i32_152
  let v219 : BitVec 32 := Scalar.remsi arg11 v218
  let c0_i32_156 : BitVec 32 := 0#32
  let v221 : BitVec 1 := Scalar.cmpi .slt v219 c0_i32_156
  let c0_i32_157 : BitVec 32 := 0#32
  let v222 : BitVec 1 := Scalar.cmpi .slt v218 c0_i32_157
  let v223 : BitVec 1 := Scalar.xori v221 v222
  let c0_i32_155 : BitVec 32 := 0#32
  let v220 : BitVec 1 := Scalar.cmpi .ne v219 c0_i32_155
  let v224 : BitVec 1 := Scalar.andi v223 v220
  let v225 : BitVec 32 := Scalar.addi v219 v218
  let v226 : BitVec 32 := Scalar.select v224 v225 v219
  let v233 : Index := Scalar.indexCast v226
  let c0_164 : Index := 0#32
  let c0_165 : Index := 0#32
  let c0_166 : Index := 0#32
  ![v233.toNat, 0, 0, 0]
def k0_mult4 (i : grid0.Coords) (k0_t1 : Fin (k0_t1_loop i).trips) : BitVec 32 :=
  let c0_i32_76 : BitVec 32 := 0#32
  let c1_i32_78 : BitVec 32 := 1#32
  let arg11 : BitVec 32 := Scf.iv c0_i32_76 c1_i32_78 k0_t1
  let c2048_i32_170 : BitVec 32 := 2048#32
  let v246 : BitVec 32 := Scalar.muli arg11 c2048_i32_170
  v246
def k0_off5 (i : grid0.Coords) (k0_t1 : Fin (k0_t1_loop i).trips) : Fin 4 → Nat :=
  let c0_171 : Index := 0#32
  let c0_172 : Index := 0#32
  let c0_i32_76 : BitVec 32 := 0#32
  let c1_i32_78 : BitVec 32 := 1#32
  let arg11 : BitVec 32 := Scf.iv c0_i32_76 c1_i32_78 k0_t1
  let c2048_i32_170 : BitVec 32 := 2048#32
  let v246 : BitVec 32 := Scalar.muli arg11 c2048_i32_170
  let v247 : BitVec 32 := v246
  let v248 : Index := Scalar.indexCast v247
  let c0_173 : Index := 0#32
  ![0, 0, v248.toNat, 0]
def k0_off6 (i : grid0.Coords) (k0_t1 : Fin (k0_t1_loop i).trips) : Fin 4 → Nat :=
  let c0_i32_76 : BitVec 32 := 0#32
  let c1_i32_78 : BitVec 32 := 1#32
  let arg11 : BitVec 32 := Scf.iv c0_i32_76 c1_i32_78 k0_t1
  let c2_i32_152 : BitVec 32 := 2#32
  let c0_i32_153 : BitVec 32 := 0#32
  let v217 : BitVec 1 := Scalar.cmpi .eq c2_i32_152 c0_i32_153
  let c1_i32_154 : BitVec 32 := 1#32
  let v218 : BitVec 32 := Scalar.select v217 c1_i32_154 c2_i32_152
  let v219 : BitVec 32 := Scalar.remsi arg11 v218
  let c0_i32_156 : BitVec 32 := 0#32
  let v221 : BitVec 1 := Scalar.cmpi .slt v219 c0_i32_156
  let c0_i32_157 : BitVec 32 := 0#32
  let v222 : BitVec 1 := Scalar.cmpi .slt v218 c0_i32_157
  let v223 : BitVec 1 := Scalar.xori v221 v222
  let c0_i32_155 : BitVec 32 := 0#32
  let v220 : BitVec 1 := Scalar.cmpi .ne v219 c0_i32_155
  let v224 : BitVec 1 := Scalar.andi v223 v220
  let v225 : BitVec 32 := Scalar.addi v219 v218
  let v226 : BitVec 32 := Scalar.select v224 v225 v219
  let v261 : Index := Scalar.indexCast v226
  let c1_184 : Index := 1#32
  let c0_185 : Index := 0#32
  let c0_186 : Index := 0#32
  ![v261.toNat, 1, 0, 0]
def k0_off7 (i : grid0.Coords) (k0_t1 : Fin (k0_t1_loop i).trips) : Fin 4 → Nat :=
  let c0_i32_76 : BitVec 32 := 0#32
  let c1_i32_78 : BitVec 32 := 1#32
  let arg11 : BitVec 32 := Scf.iv c0_i32_76 c1_i32_78 k0_t1
  let c2_i32_152 : BitVec 32 := 2#32
  let c0_i32_153 : BitVec 32 := 0#32
  let v217 : BitVec 1 := Scalar.cmpi .eq c2_i32_152 c0_i32_153
  let c1_i32_154 : BitVec 32 := 1#32
  let v218 : BitVec 32 := Scalar.select v217 c1_i32_154 c2_i32_152
  let v219 : BitVec 32 := Scalar.remsi arg11 v218
  let c0_i32_156 : BitVec 32 := 0#32
  let v221 : BitVec 1 := Scalar.cmpi .slt v219 c0_i32_156
  let c0_i32_157 : BitVec 32 := 0#32
  let v222 : BitVec 1 := Scalar.cmpi .slt v218 c0_i32_157
  let v223 : BitVec 1 := Scalar.xori v221 v222
  let c0_i32_155 : BitVec 32 := 0#32
  let v220 : BitVec 1 := Scalar.cmpi .ne v219 c0_i32_155
  let v224 : BitVec 1 := Scalar.andi v223 v220
  let v225 : BitVec 32 := Scalar.addi v219 v218
  let v226 : BitVec 32 := Scalar.select v224 v225 v219
  let v265 : Index := Scalar.indexCast v226
  let c1_187 : Index := 1#32
  let c0_188 : Index := 0#32
  let c0_189 : Index := 0#32
  ![v265.toNat, 1, 0, 0]
def k0_mult5 (i : grid0.Coords) (k0_t1 : Fin (k0_t1_loop i).trips) : BitVec 32 :=
  let c0_i32_76 : BitVec 32 := 0#32
  let c1_i32_78 : BitVec 32 := 1#32
  let arg11 : BitVec 32 := Scf.iv c0_i32_76 c1_i32_78 k0_t1
  let c2048_i32_193 : BitVec 32 := 2048#32
  let v278 : BitVec 32 := Scalar.muli arg11 c2048_i32_193
  v278
def k0_off8 (i : grid0.Coords) (k0_t1 : Fin (k0_t1_loop i).trips) : Fin 4 → Nat :=
  let c0_194 : Index := 0#32
  let c1_195 : Index := 1#32
  let c0_i32_76 : BitVec 32 := 0#32
  let c1_i32_78 : BitVec 32 := 1#32
  let arg11 : BitVec 32 := Scf.iv c0_i32_76 c1_i32_78 k0_t1
  let c2048_i32_193 : BitVec 32 := 2048#32
  let v278 : BitVec 32 := Scalar.muli arg11 c2048_i32_193
  let v279 : BitVec 32 := v278
  let v280 : Index := Scalar.indexCast v279
  let c0_196 : Index := 0#32
  ![0, 1, v280.toNat, 0]
def k0_mult6 (i : grid0.Coords) (k0_t1 : Fin (k0_t1_loop i).trips) : BitVec 32 :=
  let c0_i32_76 : BitVec 32 := 0#32
  let c1_i32_78 : BitVec 32 := 1#32
  let arg11 : BitVec 32 := Scf.iv c0_i32_76 c1_i32_78 k0_t1
  let c1_i32_204 : BitVec 32 := 1#32
  let v291 : BitVec 32 := Scalar.addi arg11 c1_i32_204
  let c2048_i32_212 : BitVec 32 := 2048#32
  let v303 : BitVec 32 := Scalar.muli v291 c2048_i32_212
  v303
def k0_off9 (i : grid0.Coords) (k0_t1 : Fin (k0_t1_loop i).trips) : Fin 4 → Nat :=
  let c0_213 : Index := 0#32
  let c0_214 : Index := 0#32
  let c0_i32_76 : BitVec 32 := 0#32
  let c1_i32_78 : BitVec 32 := 1#32
  let arg11 : BitVec 32 := Scf.iv c0_i32_76 c1_i32_78 k0_t1
  let c1_i32_204 : BitVec 32 := 1#32
  let v291 : BitVec 32 := Scalar.addi arg11 c1_i32_204
  let c2048_i32_212 : BitVec 32 := 2048#32
  let v303 : BitVec 32 := Scalar.muli v291 c2048_i32_212
  let v304 : BitVec 32 := v303
  let v305 : Index := Scalar.indexCast v304
  let c0_215 : Index := 0#32
  ![0, 0, v305.toNat, 0]
def k0_off10 (i : grid0.Coords) (k0_t1 : Fin (k0_t1_loop i).trips) : Fin 4 → Nat :=
  let c0_i32_76 : BitVec 32 := 0#32
  let c1_i32_78 : BitVec 32 := 1#32
  let arg11 : BitVec 32 := Scf.iv c0_i32_76 c1_i32_78 k0_t1
  let c1_i32_205 : BitVec 32 := 1#32
  let v292 : BitVec 32 := Scalar.addi arg11 c1_i32_205
  let c2_i32_206 : BitVec 32 := 2#32
  let c0_i32_207 : BitVec 32 := 0#32
  let v293 : BitVec 1 := Scalar.cmpi .eq c2_i32_206 c0_i32_207
  let c1_i32_208 : BitVec 32 := 1#32
  let v294 : BitVec 32 := Scalar.select v293 c1_i32_208 c2_i32_206
  let v295 : BitVec 32 := Scalar.remsi v292 v294
  let c0_i32_210 : BitVec 32 := 0#32
  let v297 : BitVec 1 := Scalar.cmpi .slt v295 c0_i32_210
  let c0_i32_211 : BitVec 32 := 0#32
  let v298 : BitVec 1 := Scalar.cmpi .slt v294 c0_i32_211
  let v299 : BitVec 1 := Scalar.xori v297 v298
  let c0_i32_209 : BitVec 32 := 0#32
  let v296 : BitVec 1 := Scalar.cmpi .ne v295 c0_i32_209
  let v300 : BitVec 1 := Scalar.andi v299 v296
  let v301 : BitVec 32 := Scalar.addi v295 v294
  let v302 : BitVec 32 := Scalar.select v300 v301 v295
  let v309 : Index := Scalar.indexCast v302
  let c0_217 : Index := 0#32
  let c0_218 : Index := 0#32
  let c0_219 : Index := 0#32
  ![v309.toNat, 0, 0, 0]
def k0_off11 (i : grid0.Coords) (k0_t1 : Fin (k0_t1_loop i).trips) : Fin 4 → Nat :=
  let c0_i32_76 : BitVec 32 := 0#32
  let c1_i32_78 : BitVec 32 := 1#32
  let arg11 : BitVec 32 := Scf.iv c0_i32_76 c1_i32_78 k0_t1
  let c1_i32_205 : BitVec 32 := 1#32
  let v292 : BitVec 32 := Scalar.addi arg11 c1_i32_205
  let c2_i32_206 : BitVec 32 := 2#32
  let c0_i32_207 : BitVec 32 := 0#32
  let v293 : BitVec 1 := Scalar.cmpi .eq c2_i32_206 c0_i32_207
  let c1_i32_208 : BitVec 32 := 1#32
  let v294 : BitVec 32 := Scalar.select v293 c1_i32_208 c2_i32_206
  let v295 : BitVec 32 := Scalar.remsi v292 v294
  let c0_i32_210 : BitVec 32 := 0#32
  let v297 : BitVec 1 := Scalar.cmpi .slt v295 c0_i32_210
  let c0_i32_211 : BitVec 32 := 0#32
  let v298 : BitVec 1 := Scalar.cmpi .slt v294 c0_i32_211
  let v299 : BitVec 1 := Scalar.xori v297 v298
  let c0_i32_209 : BitVec 32 := 0#32
  let v296 : BitVec 1 := Scalar.cmpi .ne v295 c0_i32_209
  let v300 : BitVec 1 := Scalar.andi v299 v296
  let v301 : BitVec 32 := Scalar.addi v295 v294
  let v302 : BitVec 32 := Scalar.select v300 v301 v295
  let v315 : Index := Scalar.indexCast v302
  let c0_221 : Index := 0#32
  let c0_222 : Index := 0#32
  let c0_223 : Index := 0#32
  ![v315.toNat, 0, 0, 0]
def k0_mult7 (i : grid0.Coords) (k0_t1 : Fin (k0_t1_loop i).trips) : BitVec 32 :=
  let c0_i32_76 : BitVec 32 := 0#32
  let c1_i32_78 : BitVec 32 := 1#32
  let arg11 : BitVec 32 := Scf.iv c0_i32_76 c1_i32_78 k0_t1
  let c1_i32_204 : BitVec 32 := 1#32
  let v291 : BitVec 32 := Scalar.addi arg11 c1_i32_204
  let c2048_i32_224 : BitVec 32 := 2048#32
  let v319 : BitVec 32 := Scalar.muli v291 c2048_i32_224
  v319
def k0_off12 (i : grid0.Coords) (k0_t1 : Fin (k0_t1_loop i).trips) : Fin 4 → Nat :=
  let c0_225 : Index := 0#32
  let c1_226 : Index := 1#32
  let c0_i32_76 : BitVec 32 := 0#32
  let c1_i32_78 : BitVec 32 := 1#32
  let arg11 : BitVec 32 := Scf.iv c0_i32_76 c1_i32_78 k0_t1
  let c1_i32_204 : BitVec 32 := 1#32
  let v291 : BitVec 32 := Scalar.addi arg11 c1_i32_204
  let c2048_i32_224 : BitVec 32 := 2048#32
  let v319 : BitVec 32 := Scalar.muli v291 c2048_i32_224
  let v320 : BitVec 32 := v319
  let v321 : Index := Scalar.indexCast v320
  let c0_227 : Index := 0#32
  ![0, 1, v321.toNat, 0]
def k0_off13 (i : grid0.Coords) (k0_t1 : Fin (k0_t1_loop i).trips) : Fin 4 → Nat :=
  let c0_i32_76 : BitVec 32 := 0#32
  let c1_i32_78 : BitVec 32 := 1#32
  let arg11 : BitVec 32 := Scf.iv c0_i32_76 c1_i32_78 k0_t1
  let c1_i32_205 : BitVec 32 := 1#32
  let v292 : BitVec 32 := Scalar.addi arg11 c1_i32_205
  let c2_i32_206 : BitVec 32 := 2#32
  let c0_i32_207 : BitVec 32 := 0#32
  let v293 : BitVec 1 := Scalar.cmpi .eq c2_i32_206 c0_i32_207
  let c1_i32_208 : BitVec 32 := 1#32
  let v294 : BitVec 32 := Scalar.select v293 c1_i32_208 c2_i32_206
  let v295 : BitVec 32 := Scalar.remsi v292 v294
  let c0_i32_210 : BitVec 32 := 0#32
  let v297 : BitVec 1 := Scalar.cmpi .slt v295 c0_i32_210
  let c0_i32_211 : BitVec 32 := 0#32
  let v298 : BitVec 1 := Scalar.cmpi .slt v294 c0_i32_211
  let v299 : BitVec 1 := Scalar.xori v297 v298
  let c0_i32_209 : BitVec 32 := 0#32
  let v296 : BitVec 1 := Scalar.cmpi .ne v295 c0_i32_209
  let v300 : BitVec 1 := Scalar.andi v299 v296
  let v301 : BitVec 32 := Scalar.addi v295 v294
  let v302 : BitVec 32 := Scalar.select v300 v301 v295
  let v325 : Index := Scalar.indexCast v302
  let c1_229 : Index := 1#32
  let c0_230 : Index := 0#32
  let c0_231 : Index := 0#32
  ![v325.toNat, 1, 0, 0]
def k0_off14 (i : grid0.Coords) (k0_t1 : Fin (k0_t1_loop i).trips) : Fin 4 → Nat :=
  let c0_i32_76 : BitVec 32 := 0#32
  let c1_i32_78 : BitVec 32 := 1#32
  let arg11 : BitVec 32 := Scf.iv c0_i32_76 c1_i32_78 k0_t1
  let c1_i32_205 : BitVec 32 := 1#32
  let v292 : BitVec 32 := Scalar.addi arg11 c1_i32_205
  let c2_i32_206 : BitVec 32 := 2#32
  let c0_i32_207 : BitVec 32 := 0#32
  let v293 : BitVec 1 := Scalar.cmpi .eq c2_i32_206 c0_i32_207
  let c1_i32_208 : BitVec 32 := 1#32
  let v294 : BitVec 32 := Scalar.select v293 c1_i32_208 c2_i32_206
  let v295 : BitVec 32 := Scalar.remsi v292 v294
  let c0_i32_210 : BitVec 32 := 0#32
  let v297 : BitVec 1 := Scalar.cmpi .slt v295 c0_i32_210
  let c0_i32_211 : BitVec 32 := 0#32
  let v298 : BitVec 1 := Scalar.cmpi .slt v294 c0_i32_211
  let v299 : BitVec 1 := Scalar.xori v297 v298
  let c0_i32_209 : BitVec 32 := 0#32
  let v296 : BitVec 1 := Scalar.cmpi .ne v295 c0_i32_209
  let v300 : BitVec 1 := Scalar.andi v299 v296
  let v301 : BitVec 32 := Scalar.addi v295 v294
  let v302 : BitVec 32 := Scalar.select v300 v301 v295
  let v331 : Index := Scalar.indexCast v302
  let c1_233 : Index := 1#32
  let c0_234 : Index := 0#32
  let c0_235 : Index := 0#32
  ![v331.toNat, 1, 0, 0]
@[reducible] def k0_t2_loop (i : grid0.Coords) : Scf.Loop 32 :=
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let v111 : BitVec 32 := Scalar.addi c0_i32_76 v110
  let c1_i32_79 : BitVec 32 := 1#32
  ⟨v114, v111, c1_i32_79⟩
def k0_off15 (i : grid0.Coords) (k0_t2 : Fin (k0_t2_loop i).trips) : Fin 4 → Nat :=
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c2_i32_152 : BitVec 32 := 2#32
  let c0_i32_153 : BitVec 32 := 0#32
  let v217 : BitVec 1 := Scalar.cmpi .eq c2_i32_152 c0_i32_153
  let c1_i32_154 : BitVec 32 := 1#32
  let v218 : BitVec 32 := Scalar.select v217 c1_i32_154 c2_i32_152
  let v219 : BitVec 32 := Scalar.remsi arg11 v218
  let c0_i32_156 : BitVec 32 := 0#32
  let v221 : BitVec 1 := Scalar.cmpi .slt v219 c0_i32_156
  let c0_i32_157 : BitVec 32 := 0#32
  let v222 : BitVec 1 := Scalar.cmpi .slt v218 c0_i32_157
  let v223 : BitVec 1 := Scalar.xori v221 v222
  let c0_i32_155 : BitVec 32 := 0#32
  let v220 : BitVec 1 := Scalar.cmpi .ne v219 c0_i32_155
  let v224 : BitVec 1 := Scalar.andi v223 v220
  let v225 : BitVec 32 := Scalar.addi v219 v218
  let v226 : BitVec 32 := Scalar.select v224 v225 v219
  let v229 : Index := Scalar.indexCast v226
  let c0_161 : Index := 0#32
  let c0_162 : Index := 0#32
  let c0_163 : Index := 0#32
  ![v229.toNat, 0, 0, 0]
def k0_off16 (i : grid0.Coords) (k0_t2 : Fin (k0_t2_loop i).trips) : Fin 4 → Nat :=
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c2_i32_152 : BitVec 32 := 2#32
  let c0_i32_153 : BitVec 32 := 0#32
  let v217 : BitVec 1 := Scalar.cmpi .eq c2_i32_152 c0_i32_153
  let c1_i32_154 : BitVec 32 := 1#32
  let v218 : BitVec 32 := Scalar.select v217 c1_i32_154 c2_i32_152
  let v219 : BitVec 32 := Scalar.remsi arg11 v218
  let c0_i32_156 : BitVec 32 := 0#32
  let v221 : BitVec 1 := Scalar.cmpi .slt v219 c0_i32_156
  let c0_i32_157 : BitVec 32 := 0#32
  let v222 : BitVec 1 := Scalar.cmpi .slt v218 c0_i32_157
  let v223 : BitVec 1 := Scalar.xori v221 v222
  let c0_i32_155 : BitVec 32 := 0#32
  let v220 : BitVec 1 := Scalar.cmpi .ne v219 c0_i32_155
  let v224 : BitVec 1 := Scalar.andi v223 v220
  let v225 : BitVec 32 := Scalar.addi v219 v218
  let v226 : BitVec 32 := Scalar.select v224 v225 v219
  let v233 : Index := Scalar.indexCast v226
  let c0_164 : Index := 0#32
  let c0_165 : Index := 0#32
  let c0_166 : Index := 0#32
  ![v233.toNat, 0, 0, 0]
def k0_mult8 (i : grid0.Coords) (k0_t2 : Fin (k0_t2_loop i).trips) : BitVec 32 :=
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c2048_i32_170 : BitVec 32 := 2048#32
  let v246 : BitVec 32 := Scalar.muli arg11 c2048_i32_170
  v246
def k0_off17 (i : grid0.Coords) (k0_t2 : Fin (k0_t2_loop i).trips) : Fin 4 → Nat :=
  let c0_171 : Index := 0#32
  let c0_172 : Index := 0#32
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c2048_i32_170 : BitVec 32 := 2048#32
  let v246 : BitVec 32 := Scalar.muli arg11 c2048_i32_170
  let v247 : BitVec 32 := v246
  let v248 : Index := Scalar.indexCast v247
  let c0_173 : Index := 0#32
  ![0, 0, v248.toNat, 0]
def k0_off18 (i : grid0.Coords) (k0_t2 : Fin (k0_t2_loop i).trips) : Fin 4 → Nat :=
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c2_i32_152 : BitVec 32 := 2#32
  let c0_i32_153 : BitVec 32 := 0#32
  let v217 : BitVec 1 := Scalar.cmpi .eq c2_i32_152 c0_i32_153
  let c1_i32_154 : BitVec 32 := 1#32
  let v218 : BitVec 32 := Scalar.select v217 c1_i32_154 c2_i32_152
  let v219 : BitVec 32 := Scalar.remsi arg11 v218
  let c0_i32_156 : BitVec 32 := 0#32
  let v221 : BitVec 1 := Scalar.cmpi .slt v219 c0_i32_156
  let c0_i32_157 : BitVec 32 := 0#32
  let v222 : BitVec 1 := Scalar.cmpi .slt v218 c0_i32_157
  let v223 : BitVec 1 := Scalar.xori v221 v222
  let c0_i32_155 : BitVec 32 := 0#32
  let v220 : BitVec 1 := Scalar.cmpi .ne v219 c0_i32_155
  let v224 : BitVec 1 := Scalar.andi v223 v220
  let v225 : BitVec 32 := Scalar.addi v219 v218
  let v226 : BitVec 32 := Scalar.select v224 v225 v219
  let v261 : Index := Scalar.indexCast v226
  let c1_184 : Index := 1#32
  let c0_185 : Index := 0#32
  let c0_186 : Index := 0#32
  ![v261.toNat, 1, 0, 0]
def k0_off19 (i : grid0.Coords) (k0_t2 : Fin (k0_t2_loop i).trips) : Fin 4 → Nat :=
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c2_i32_152 : BitVec 32 := 2#32
  let c0_i32_153 : BitVec 32 := 0#32
  let v217 : BitVec 1 := Scalar.cmpi .eq c2_i32_152 c0_i32_153
  let c1_i32_154 : BitVec 32 := 1#32
  let v218 : BitVec 32 := Scalar.select v217 c1_i32_154 c2_i32_152
  let v219 : BitVec 32 := Scalar.remsi arg11 v218
  let c0_i32_156 : BitVec 32 := 0#32
  let v221 : BitVec 1 := Scalar.cmpi .slt v219 c0_i32_156
  let c0_i32_157 : BitVec 32 := 0#32
  let v222 : BitVec 1 := Scalar.cmpi .slt v218 c0_i32_157
  let v223 : BitVec 1 := Scalar.xori v221 v222
  let c0_i32_155 : BitVec 32 := 0#32
  let v220 : BitVec 1 := Scalar.cmpi .ne v219 c0_i32_155
  let v224 : BitVec 1 := Scalar.andi v223 v220
  let v225 : BitVec 32 := Scalar.addi v219 v218
  let v226 : BitVec 32 := Scalar.select v224 v225 v219
  let v265 : Index := Scalar.indexCast v226
  let c1_187 : Index := 1#32
  let c0_188 : Index := 0#32
  let c0_189 : Index := 0#32
  ![v265.toNat, 1, 0, 0]
def k0_mult9 (i : grid0.Coords) (k0_t2 : Fin (k0_t2_loop i).trips) : BitVec 32 :=
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c2048_i32_193 : BitVec 32 := 2048#32
  let v278 : BitVec 32 := Scalar.muli arg11 c2048_i32_193
  v278
def k0_off20 (i : grid0.Coords) (k0_t2 : Fin (k0_t2_loop i).trips) : Fin 4 → Nat :=
  let c0_194 : Index := 0#32
  let c1_195 : Index := 1#32
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c2048_i32_193 : BitVec 32 := 2048#32
  let v278 : BitVec 32 := Scalar.muli arg11 c2048_i32_193
  let v279 : BitVec 32 := v278
  let v280 : Index := Scalar.indexCast v279
  let c0_196 : Index := 0#32
  ![0, 1, v280.toNat, 0]
def k0_mult10 (i : grid0.Coords) (k0_t2 : Fin (k0_t2_loop i).trips) : BitVec 32 :=
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c1_i32_204 : BitVec 32 := 1#32
  let v291 : BitVec 32 := Scalar.addi arg11 c1_i32_204
  let c2048_i32_212 : BitVec 32 := 2048#32
  let v303 : BitVec 32 := Scalar.muli v291 c2048_i32_212
  v303
def k0_off21 (i : grid0.Coords) (k0_t2 : Fin (k0_t2_loop i).trips) : Fin 4 → Nat :=
  let c0_213 : Index := 0#32
  let c0_214 : Index := 0#32
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c1_i32_204 : BitVec 32 := 1#32
  let v291 : BitVec 32 := Scalar.addi arg11 c1_i32_204
  let c2048_i32_212 : BitVec 32 := 2048#32
  let v303 : BitVec 32 := Scalar.muli v291 c2048_i32_212
  let v304 : BitVec 32 := v303
  let v305 : Index := Scalar.indexCast v304
  let c0_215 : Index := 0#32
  ![0, 0, v305.toNat, 0]
def k0_off22 (i : grid0.Coords) (k0_t2 : Fin (k0_t2_loop i).trips) : Fin 4 → Nat :=
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c1_i32_205 : BitVec 32 := 1#32
  let v292 : BitVec 32 := Scalar.addi arg11 c1_i32_205
  let c2_i32_206 : BitVec 32 := 2#32
  let c0_i32_207 : BitVec 32 := 0#32
  let v293 : BitVec 1 := Scalar.cmpi .eq c2_i32_206 c0_i32_207
  let c1_i32_208 : BitVec 32 := 1#32
  let v294 : BitVec 32 := Scalar.select v293 c1_i32_208 c2_i32_206
  let v295 : BitVec 32 := Scalar.remsi v292 v294
  let c0_i32_210 : BitVec 32 := 0#32
  let v297 : BitVec 1 := Scalar.cmpi .slt v295 c0_i32_210
  let c0_i32_211 : BitVec 32 := 0#32
  let v298 : BitVec 1 := Scalar.cmpi .slt v294 c0_i32_211
  let v299 : BitVec 1 := Scalar.xori v297 v298
  let c0_i32_209 : BitVec 32 := 0#32
  let v296 : BitVec 1 := Scalar.cmpi .ne v295 c0_i32_209
  let v300 : BitVec 1 := Scalar.andi v299 v296
  let v301 : BitVec 32 := Scalar.addi v295 v294
  let v302 : BitVec 32 := Scalar.select v300 v301 v295
  let v309 : Index := Scalar.indexCast v302
  let c0_217 : Index := 0#32
  let c0_218 : Index := 0#32
  let c0_219 : Index := 0#32
  ![v309.toNat, 0, 0, 0]
def k0_off23 (i : grid0.Coords) (k0_t2 : Fin (k0_t2_loop i).trips) : Fin 4 → Nat :=
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c1_i32_205 : BitVec 32 := 1#32
  let v292 : BitVec 32 := Scalar.addi arg11 c1_i32_205
  let c2_i32_206 : BitVec 32 := 2#32
  let c0_i32_207 : BitVec 32 := 0#32
  let v293 : BitVec 1 := Scalar.cmpi .eq c2_i32_206 c0_i32_207
  let c1_i32_208 : BitVec 32 := 1#32
  let v294 : BitVec 32 := Scalar.select v293 c1_i32_208 c2_i32_206
  let v295 : BitVec 32 := Scalar.remsi v292 v294
  let c0_i32_210 : BitVec 32 := 0#32
  let v297 : BitVec 1 := Scalar.cmpi .slt v295 c0_i32_210
  let c0_i32_211 : BitVec 32 := 0#32
  let v298 : BitVec 1 := Scalar.cmpi .slt v294 c0_i32_211
  let v299 : BitVec 1 := Scalar.xori v297 v298
  let c0_i32_209 : BitVec 32 := 0#32
  let v296 : BitVec 1 := Scalar.cmpi .ne v295 c0_i32_209
  let v300 : BitVec 1 := Scalar.andi v299 v296
  let v301 : BitVec 32 := Scalar.addi v295 v294
  let v302 : BitVec 32 := Scalar.select v300 v301 v295
  let v315 : Index := Scalar.indexCast v302
  let c0_221 : Index := 0#32
  let c0_222 : Index := 0#32
  let c0_223 : Index := 0#32
  ![v315.toNat, 0, 0, 0]
def k0_mult11 (i : grid0.Coords) (k0_t2 : Fin (k0_t2_loop i).trips) : BitVec 32 :=
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c1_i32_204 : BitVec 32 := 1#32
  let v291 : BitVec 32 := Scalar.addi arg11 c1_i32_204
  let c2048_i32_224 : BitVec 32 := 2048#32
  let v319 : BitVec 32 := Scalar.muli v291 c2048_i32_224
  v319
def k0_off24 (i : grid0.Coords) (k0_t2 : Fin (k0_t2_loop i).trips) : Fin 4 → Nat :=
  let c0_225 : Index := 0#32
  let c1_226 : Index := 1#32
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c1_i32_204 : BitVec 32 := 1#32
  let v291 : BitVec 32 := Scalar.addi arg11 c1_i32_204
  let c2048_i32_224 : BitVec 32 := 2048#32
  let v319 : BitVec 32 := Scalar.muli v291 c2048_i32_224
  let v320 : BitVec 32 := v319
  let v321 : Index := Scalar.indexCast v320
  let c0_227 : Index := 0#32
  ![0, 1, v321.toNat, 0]
def k0_off25 (i : grid0.Coords) (k0_t2 : Fin (k0_t2_loop i).trips) : Fin 4 → Nat :=
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c1_i32_205 : BitVec 32 := 1#32
  let v292 : BitVec 32 := Scalar.addi arg11 c1_i32_205
  let c2_i32_206 : BitVec 32 := 2#32
  let c0_i32_207 : BitVec 32 := 0#32
  let v293 : BitVec 1 := Scalar.cmpi .eq c2_i32_206 c0_i32_207
  let c1_i32_208 : BitVec 32 := 1#32
  let v294 : BitVec 32 := Scalar.select v293 c1_i32_208 c2_i32_206
  let v295 : BitVec 32 := Scalar.remsi v292 v294
  let c0_i32_210 : BitVec 32 := 0#32
  let v297 : BitVec 1 := Scalar.cmpi .slt v295 c0_i32_210
  let c0_i32_211 : BitVec 32 := 0#32
  let v298 : BitVec 1 := Scalar.cmpi .slt v294 c0_i32_211
  let v299 : BitVec 1 := Scalar.xori v297 v298
  let c0_i32_209 : BitVec 32 := 0#32
  let v296 : BitVec 1 := Scalar.cmpi .ne v295 c0_i32_209
  let v300 : BitVec 1 := Scalar.andi v299 v296
  let v301 : BitVec 32 := Scalar.addi v295 v294
  let v302 : BitVec 32 := Scalar.select v300 v301 v295
  let v325 : Index := Scalar.indexCast v302
  let c1_229 : Index := 1#32
  let c0_230 : Index := 0#32
  let c0_231 : Index := 0#32
  ![v325.toNat, 1, 0, 0]
def k0_off26 (i : grid0.Coords) (k0_t2 : Fin (k0_t2_loop i).trips) : Fin 4 → Nat :=
  let c0_i32_76 : BitVec 32 := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_74 : BitVec 32 := 1#32
  let v109 : BitVec 32 := Scalar.subi v19 c1_i32_74
  let v110 : BitVec 32 := Scalar.subi v109 c0_i32_76
  let c1_i32_77 : BitVec 32 := 1#32
  let v112 : BitVec 32 := Scalar.divsi v110 c1_i32_77
  let v113 : BitVec 32 := Scalar.muli v112 c1_i32_77
  let v114 : BitVec 32 := Scalar.addi c0_i32_76 v113
  let c1_i32_79 : BitVec 32 := 1#32
  let arg11 : BitVec 32 := Scf.iv v114 c1_i32_79 k0_t2
  let c1_i32_205 : BitVec 32 := 1#32
  let v292 : BitVec 32 := Scalar.addi arg11 c1_i32_205
  let c2_i32_206 : BitVec 32 := 2#32
  let c0_i32_207 : BitVec 32 := 0#32
  let v293 : BitVec 1 := Scalar.cmpi .eq c2_i32_206 c0_i32_207
  let c1_i32_208 : BitVec 32 := 1#32
  let v294 : BitVec 32 := Scalar.select v293 c1_i32_208 c2_i32_206
  let v295 : BitVec 32 := Scalar.remsi v292 v294
  let c0_i32_210 : BitVec 32 := 0#32
  let v297 : BitVec 1 := Scalar.cmpi .slt v295 c0_i32_210
  let c0_i32_211 : BitVec 32 := 0#32
  let v298 : BitVec 1 := Scalar.cmpi .slt v294 c0_i32_211
  let v299 : BitVec 1 := Scalar.xori v297 v298
  let c0_i32_209 : BitVec 32 := 0#32
  let v296 : BitVec 1 := Scalar.cmpi .ne v295 c0_i32_209
  let v300 : BitVec 1 := Scalar.andi v299 v296
  let v301 : BitVec 32 := Scalar.addi v295 v294
  let v302 : BitVec 32 := Scalar.select v300 v301 v295
  let v331 : Index := Scalar.indexCast v302
  let c1_233 : Index := 1#32
  let c0_234 : Index := 0#32
  let c0_235 : Index := 0#32
  ![v331.toNat, 1, 0, 0]
def k0_off27 (i : grid0.Coords) : Fin 4 → Nat :=
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_80 : BitVec 32 := 1#32
  let v115 : BitVec 32 := Scalar.subi v19 c1_i32_80
  let c0_i32_81 : BitVec 32 := 0#32
  let v116 : BitVec 32 := Scalar.maxsi v115 c0_i32_81
  let c2_i32 : BitVec 32 := 2#32
  let c0_i32_82 : BitVec 32 := 0#32
  let v117 : BitVec 1 := Scalar.cmpi .eq c2_i32 c0_i32_82
  let c1_i32_83 : BitVec 32 := 1#32
  let v118 : BitVec 32 := Scalar.select v117 c1_i32_83 c2_i32
  let v119 : BitVec 32 := Scalar.remsi v116 v118
  let c0_i32_85 : BitVec 32 := 0#32
  let v121 : BitVec 1 := Scalar.cmpi .slt v119 c0_i32_85
  let c0_i32_86 : BitVec 32 := 0#32
  let v122 : BitVec 1 := Scalar.cmpi .slt v118 c0_i32_86
  let v123 : BitVec 1 := Scalar.xori v121 v122
  let c0_i32_84 : BitVec 32 := 0#32
  let v120 : BitVec 1 := Scalar.cmpi .ne v119 c0_i32_84
  let v124 : BitVec 1 := Scalar.andi v123 v120
  let v125 : BitVec 32 := Scalar.addi v119 v118
  let v126 : BitVec 32 := Scalar.select v124 v125 v119
  let v129 : Index := Scalar.indexCast v126
  let c0_90 : Index := 0#32
  let c0_91 : Index := 0#32
  let c0_92 : Index := 0#32
  ![v129.toNat, 0, 0, 0]
def k0_off28 (i : grid0.Coords) : Fin 4 → Nat :=
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_80 : BitVec 32 := 1#32
  let v115 : BitVec 32 := Scalar.subi v19 c1_i32_80
  let c0_i32_81 : BitVec 32 := 0#32
  let v116 : BitVec 32 := Scalar.maxsi v115 c0_i32_81
  let c2_i32 : BitVec 32 := 2#32
  let c0_i32_82 : BitVec 32 := 0#32
  let v117 : BitVec 1 := Scalar.cmpi .eq c2_i32 c0_i32_82
  let c1_i32_83 : BitVec 32 := 1#32
  let v118 : BitVec 32 := Scalar.select v117 c1_i32_83 c2_i32
  let v119 : BitVec 32 := Scalar.remsi v116 v118
  let c0_i32_85 : BitVec 32 := 0#32
  let v121 : BitVec 1 := Scalar.cmpi .slt v119 c0_i32_85
  let c0_i32_86 : BitVec 32 := 0#32
  let v122 : BitVec 1 := Scalar.cmpi .slt v118 c0_i32_86
  let v123 : BitVec 1 := Scalar.xori v121 v122
  let c0_i32_84 : BitVec 32 := 0#32
  let v120 : BitVec 1 := Scalar.cmpi .ne v119 c0_i32_84
  let v124 : BitVec 1 := Scalar.andi v123 v120
  let v125 : BitVec 32 := Scalar.addi v119 v118
  let v126 : BitVec 32 := Scalar.select v124 v125 v119
  let v133 : Index := Scalar.indexCast v126
  let c0_93 : Index := 0#32
  let c0_94 : Index := 0#32
  let c0_95 : Index := 0#32
  ![v133.toNat, 0, 0, 0]
def k0_mult12 (i : grid0.Coords) : BitVec 32 :=
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_80 : BitVec 32 := 1#32
  let v115 : BitVec 32 := Scalar.subi v19 c1_i32_80
  let c0_i32_81 : BitVec 32 := 0#32
  let v116 : BitVec 32 := Scalar.maxsi v115 c0_i32_81
  let c2048_i32_99 : BitVec 32 := 2048#32
  let v146 : BitVec 32 := Scalar.muli v116 c2048_i32_99
  v146
def k0_off29 (i : grid0.Coords) : Fin 4 → Nat :=
  let c0_100 : Index := 0#32
  let c0_101 : Index := 0#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_80 : BitVec 32 := 1#32
  let v115 : BitVec 32 := Scalar.subi v19 c1_i32_80
  let c0_i32_81 : BitVec 32 := 0#32
  let v116 : BitVec 32 := Scalar.maxsi v115 c0_i32_81
  let c2048_i32_99 : BitVec 32 := 2048#32
  let v146 : BitVec 32 := Scalar.muli v116 c2048_i32_99
  let v147 : BitVec 32 := v146
  let v148 : Index := Scalar.indexCast v147
  let c0_102 : Index := 0#32
  ![0, 0, v148.toNat, 0]
def k0_off30 (i : grid0.Coords) : Fin 4 → Nat :=
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_80 : BitVec 32 := 1#32
  let v115 : BitVec 32 := Scalar.subi v19 c1_i32_80
  let c0_i32_81 : BitVec 32 := 0#32
  let v116 : BitVec 32 := Scalar.maxsi v115 c0_i32_81
  let c2_i32 : BitVec 32 := 2#32
  let c0_i32_82 : BitVec 32 := 0#32
  let v117 : BitVec 1 := Scalar.cmpi .eq c2_i32 c0_i32_82
  let c1_i32_83 : BitVec 32 := 1#32
  let v118 : BitVec 32 := Scalar.select v117 c1_i32_83 c2_i32
  let v119 : BitVec 32 := Scalar.remsi v116 v118
  let c0_i32_85 : BitVec 32 := 0#32
  let v121 : BitVec 1 := Scalar.cmpi .slt v119 c0_i32_85
  let c0_i32_86 : BitVec 32 := 0#32
  let v122 : BitVec 1 := Scalar.cmpi .slt v118 c0_i32_86
  let v123 : BitVec 1 := Scalar.xori v121 v122
  let c0_i32_84 : BitVec 32 := 0#32
  let v120 : BitVec 1 := Scalar.cmpi .ne v119 c0_i32_84
  let v124 : BitVec 1 := Scalar.andi v123 v120
  let v125 : BitVec 32 := Scalar.addi v119 v118
  let v126 : BitVec 32 := Scalar.select v124 v125 v119
  let v161 : Index := Scalar.indexCast v126
  let c1_113 : Index := 1#32
  let c0_114 : Index := 0#32
  let c0_115 : Index := 0#32
  ![v161.toNat, 1, 0, 0]
def k0_off31 (i : grid0.Coords) : Fin 4 → Nat :=
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_80 : BitVec 32 := 1#32
  let v115 : BitVec 32 := Scalar.subi v19 c1_i32_80
  let c0_i32_81 : BitVec 32 := 0#32
  let v116 : BitVec 32 := Scalar.maxsi v115 c0_i32_81
  let c2_i32 : BitVec 32 := 2#32
  let c0_i32_82 : BitVec 32 := 0#32
  let v117 : BitVec 1 := Scalar.cmpi .eq c2_i32 c0_i32_82
  let c1_i32_83 : BitVec 32 := 1#32
  let v118 : BitVec 32 := Scalar.select v117 c1_i32_83 c2_i32
  let v119 : BitVec 32 := Scalar.remsi v116 v118
  let c0_i32_85 : BitVec 32 := 0#32
  let v121 : BitVec 1 := Scalar.cmpi .slt v119 c0_i32_85
  let c0_i32_86 : BitVec 32 := 0#32
  let v122 : BitVec 1 := Scalar.cmpi .slt v118 c0_i32_86
  let v123 : BitVec 1 := Scalar.xori v121 v122
  let c0_i32_84 : BitVec 32 := 0#32
  let v120 : BitVec 1 := Scalar.cmpi .ne v119 c0_i32_84
  let v124 : BitVec 1 := Scalar.andi v123 v120
  let v125 : BitVec 32 := Scalar.addi v119 v118
  let v126 : BitVec 32 := Scalar.select v124 v125 v119
  let v165 : Index := Scalar.indexCast v126
  let c1_116 : Index := 1#32
  let c0_117 : Index := 0#32
  let c0_118 : Index := 0#32
  ![v165.toNat, 1, 0, 0]
def k0_mult13 (i : grid0.Coords) : BitVec 32 :=
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_80 : BitVec 32 := 1#32
  let v115 : BitVec 32 := Scalar.subi v19 c1_i32_80
  let c0_i32_81 : BitVec 32 := 0#32
  let v116 : BitVec 32 := Scalar.maxsi v115 c0_i32_81
  let c2048_i32_122 : BitVec 32 := 2048#32
  let v178 : BitVec 32 := Scalar.muli v116 c2048_i32_122
  v178
def k0_off32 (i : grid0.Coords) : Fin 4 → Nat :=
  let c0_123 : Index := 0#32
  let c1_124 : Index := 1#32
  let arg2 : BitVec 32 := BitVec.ofNat 32 (i 2).val
  let c256_i32 : BitVec 32 := 256#32
  let v0 : BitVec 32 := Scalar.muli arg2 c256_i32
  let c2048_i32 : BitVec 32 := 2048#32
  let v1 : BitVec 32 := Scalar.addi v0 c2048_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c2048_i32_0 : BitVec 32 := 2048#32
  let c0_i32_2 : BitVec 32 := 0#32
  let v9 : BitVec 1 := Scalar.cmpi .sgt c2048_i32_0 c0_i32_2
  let v10 : BitVec 32 := Scalar.extui v9
  let c0_i32_3 : BitVec 32 := 0#32
  let v11 : BitVec 1 := Scalar.cmpi .slt c2048_i32_0 c0_i32_3
  let v12 : BitVec 32 := Scalar.extui v11
  let v13 : BitVec 32 := Scalar.subi v10 v12
  let v14 : BitVec 1 := Scalar.cmpi .ne v8 v13
  let v15 : BitVec 32 := Scalar.remsi v2 c2048_i32_0
  let c0_i32_4 : BitVec 32 := 0#32
  let v16 : BitVec 1 := Scalar.cmpi .ne v15 c0_i32_4
  let v17 : BitVec 1 := Scalar.andi v14 v16
  let v3 : BitVec 32 := Scalar.divsi v2 c2048_i32_0
  let c1_i32_5 : BitVec 32 := 1#32
  let v18 : BitVec 32 := Scalar.subi v3 c1_i32_5
  let v19 : BitVec 32 := Scalar.select v17 v18 v3
  let c1_i32_80 : BitVec 32 := 1#32
  let v115 : BitVec 32 := Scalar.subi v19 c1_i32_80
  let c0_i32_81 : BitVec 32 := 0#32
  let v116 : BitVec 32 := Scalar.maxsi v115 c0_i32_81
  let c2048_i32_122 : BitVec 32 := 2048#32
  let v178 : BitVec 32 := Scalar.muli v116 c2048_i32_122
  let v179 : BitVec 32 := v178
  let v180 : Index := Scalar.indexCast v179
  let c0_125 : Index := 0#32
  ![0, 1, v180.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "minus_inf" => some ⊥
  | _ => none
-- ==== ReferenceIdeal.lean ====
abbrev S4x8192x384 : Shape := ⟨3, ![4, 8192, 384]⟩
abbrev S4x8192x6x32 : Shape := ⟨4, ![4, 8192, 6, 32]⟩
abbrev S6 : Shape := ⟨1, ![6]⟩
abbrev S_ : Shape := ⟨0, ![]⟩
abbrev S8192x8192 : Shape := ⟨2, ![8192, 8192]⟩
abbrev S4x6x8192x32 : Shape := ⟨4, ![4, 6, 8192, 32]⟩
abbrev S4x6x8192x32x256 : Shape := ⟨5, ![4, 6, 8192, 32, 256]⟩
abbrev S4x6x8192x8192 : Shape := ⟨4, ![4, 6, 8192, 8192]⟩
abbrev S1x1x8192x8192 : Shape := ⟨4, ![1, 1, 8192, 8192]⟩
abbrev S4x8192x6x64 : Shape := ⟨4, ![4, 8192, 6, 64]⟩
abbrev S6x1x1 : Shape := ⟨3, ![6, 1, 1]⟩
abbrev S1x8192x8192 : Shape := ⟨3, ![1, 8192, 8192]⟩
abbrev S6x8192x8192 : Shape := ⟨3, ![6, 8192, 8192]⟩
abbrev S1x6x8192x8192 : Shape := ⟨4, ![1, 6, 8192, 8192]⟩
abbrev S4x6x8192 : Shape := ⟨3, ![4, 6, 8192]⟩
abbrev S4x6x8192x1 : Shape := ⟨4, ![4, 6, 8192, 1]⟩
abbrev S4x6x64x8192 : Shape := ⟨4, ![4, 6, 64, 8192]⟩

abbrev nBuf : Space → Nat
  | .hbm => 111
  | .vmem => 0
  | .smem => 0
  | _ => 0

abbrev bufTy : (tb : Table) → Fin (tcTables nBuf tb) → BufTy
  | .hbm, ⟨0, _⟩ => ⟨S4x8192x384, .f32⟩
  | .hbm, ⟨1, _⟩ => ⟨S4x8192x384, .f32⟩
  | .hbm, ⟨2, _⟩ => ⟨S4x8192x384, .f32⟩
  | .hbm, ⟨3, _⟩ => ⟨S4x8192x6x32, .i32⟩
  | .hbm, ⟨4, _⟩ => ⟨S6, .f32⟩
  | .hbm, ⟨5, _⟩ => ⟨S_, .f32⟩
  | .hbm, ⟨6, _⟩ => ⟨S6, .f32⟩
  | .hbm, ⟨7, _⟩ => ⟨S6, .f32⟩
  | .hbm, ⟨8, _⟩ => ⟨S_, .f32⟩
  | .hbm, ⟨9, _⟩ => ⟨S6, .f32⟩
  | .hbm, ⟨10, _⟩ => ⟨S6, .f32⟩
  | .hbm, ⟨11, _⟩ => ⟨S_, .f32⟩
  | .hbm, ⟨12, _⟩ => ⟨S6, .f32⟩
  | .hbm, ⟨13, _⟩ => ⟨S6, .f32⟩
  | .hbm, ⟨14, _⟩ => ⟨S_, .f32⟩
  | .hbm, ⟨15, _⟩ => ⟨S6, .f32⟩
  | .hbm, ⟨16, _⟩ => ⟨S6, .f32⟩
  | .hbm, ⟨17, _⟩ => ⟨S6, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i1⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i1⟩
  | .hbm, ⟨33, _⟩ => ⟨S8192x8192, .i1⟩
  | .hbm, ⟨34, _⟩ => ⟨S_, .i32⟩
  | .hbm, ⟨35, _⟩ => ⟨S8192x8192, .i32⟩
  | .hbm, ⟨36, _⟩ => ⟨S8192x8192, .i32⟩
  | .hbm, ⟨37, _⟩ => ⟨S8192x8192, .i32⟩
  | .hbm, ⟨38, _⟩ => ⟨S_, .i32⟩
  | .hbm, ⟨39, _⟩ => ⟨S_, .i32⟩
  | .hbm, ⟨40, _⟩ => ⟨S8192x8192, .i32⟩
  | .hbm, ⟨41, _⟩ => ⟨S8192x8192, .i32⟩
  | .hbm, ⟨42, _⟩ => ⟨S8192x8192, .i32⟩
  | .hbm, ⟨43, _⟩ => ⟨S_, .i32⟩
  | .hbm, ⟨44, _⟩ => ⟨S8192x8192, .i32⟩
  | .hbm, ⟨45, _⟩ => ⟨S8192x8192, .i1⟩
  | .hbm, ⟨46, _⟩ => ⟨S8192x8192, .i32⟩
  | .hbm, ⟨47, _⟩ => ⟨S8192x8192, .i32⟩
  | .hbm, ⟨48, _⟩ => ⟨S_, .i32⟩
  | .hbm, ⟨49, _⟩ => ⟨S8192x8192, .i32⟩
  | .hbm, ⟨50, _⟩ => ⟨S8192x8192, .i1⟩
  | .hbm, ⟨51, _⟩ => ⟨S8192x8192, .i1⟩
  | .hbm, ⟨52, _⟩ => ⟨S_, .i32⟩
  | .hbm, ⟨53, _⟩ => ⟨S8192x8192, .i32⟩
  | .hbm, ⟨54, _⟩ => ⟨S8192x8192, .i32⟩
  | .hbm, ⟨55, _⟩ => ⟨S8192x8192, .i32⟩
  | .hbm, ⟨56, _⟩ => ⟨S8192x8192, .i1⟩
  | .hbm, ⟨57, _⟩ => ⟨S8192x8192, .i1⟩
  | .hbm, ⟨58, _⟩ => ⟨S8192x8192, .i1⟩
  | .hbm, ⟨59, _⟩ => ⟨S4x6x8192x32, .i32⟩
  | .hbm, ⟨60, _⟩ => ⟨S4x6x8192x32x256, .i32⟩
  | .hbm, ⟨61, _⟩ => ⟨S4x6x8192x8192, .i32⟩
  | .hbm, ⟨62, _⟩ => ⟨S_, .i32⟩
  | .hbm, ⟨63, _⟩ => ⟨S4x6x8192x8192, .i32⟩
  | .hbm, ⟨64, _⟩ => ⟨S4x6x8192x8192, .i1⟩
  | .hbm, ⟨65, _⟩ => ⟨S1x1x8192x8192, .i1⟩
  | .hbm, ⟨66, _⟩ => ⟨S8192x8192, .i1⟩
  | .hbm, ⟨67, _⟩ => ⟨S1x1x8192x8192, .i1⟩
  | .hbm, ⟨68, _⟩ => ⟨S4x6x8192x8192, .i1⟩
  | .hbm, ⟨69, _⟩ => ⟨S4x6x8192x8192, .i1⟩
  | .hbm, ⟨70, _⟩ => ⟨S4x6x8192x8192, .i1⟩
  | .hbm, ⟨71, _⟩ => ⟨S4x6x8192x8192, .i1⟩
  | .hbm, ⟨72, _⟩ => ⟨S4x8192x6x64, .f32⟩
  | .hbm, ⟨73, _⟩ => ⟨S4x8192x6x64, .f32⟩
  | .hbm, ⟨74, _⟩ => ⟨S4x6x8192x8192, .f32⟩
  | .hbm, ⟨75, _⟩ => ⟨S_, .f32⟩
  | .hbm, ⟨76, _⟩ => ⟨S4x6x8192x8192, .f32⟩
  | .hbm, ⟨77, _⟩ => ⟨S4x6x8192x8192, .f32⟩
  | .hbm, ⟨78, _⟩ => ⟨S6x1x1, .f32⟩
  | .hbm, ⟨79, _⟩ => ⟨S8192x8192, .i32⟩
  | .hbm, ⟨80, _⟩ => ⟨S8192x8192, .f32⟩
  | .hbm, ⟨81, _⟩ => ⟨S1x8192x8192, .f32⟩
  | .hbm, ⟨82, _⟩ => ⟨S6x8192x8192, .f32⟩
  | .hbm, ⟨83, _⟩ => ⟨S6x8192x8192, .f32⟩
  | .hbm, ⟨84, _⟩ => ⟨S6x8192x8192, .f32⟩
  | .hbm, ⟨85, _⟩ => ⟨S1x6x8192x8192, .f32⟩
  | .hbm, ⟨86, _⟩ => ⟨S4x6x8192x8192, .f32⟩
  | .hbm, ⟨87, _⟩ => ⟨S4x6x8192x8192, .f32⟩
  | .hbm, ⟨88, _⟩ => ⟨S_, .f32⟩
  | .hbm, ⟨89, _⟩ => ⟨S_, .f32⟩
  | .hbm, ⟨90, _⟩ => ⟨S4x6x8192x8192, .f32⟩
  | .hbm, ⟨91, _⟩ => ⟨S4x6x8192x8192, .f32⟩
  | .hbm, ⟨92, _⟩ => ⟨S_, .f32⟩
  | .hbm, ⟨93, _⟩ => ⟨S4x6x8192, .f32⟩
  | .hbm, ⟨94, _⟩ => ⟨S4x6x8192x1, .f32⟩
  | .hbm, ⟨95, _⟩ => ⟨S4x6x8192x8192, .f32⟩
  | .hbm, ⟨96, _⟩ => ⟨S4x6x8192x8192, .f32⟩
  | .hbm, ⟨97, _⟩ => ⟨S4x6x8192x8192, .f32⟩
  | .hbm, ⟨98, _⟩ => ⟨S_, .f32⟩
  | .hbm, ⟨99, _⟩ => ⟨S4x6x8192, .f32⟩
  | .hbm, ⟨100, _⟩ => ⟨S4x6x8192x1, .f32⟩
  | .hbm, ⟨101, _⟩ => ⟨S_, .f32⟩
  | .hbm, ⟨102, _⟩ => ⟨S4x6x8192x1, .f32⟩
  | .hbm, ⟨103, _⟩ => ⟨S4x6x8192x1, .f32⟩
  | .hbm, ⟨104, _⟩ => ⟨S4x6x8192x8192, .f32⟩
  | .hbm, ⟨105, _⟩ => ⟨S4x6x8192x8192, .f32⟩
  | .hbm, ⟨106, _⟩ => ⟨S4x8192x6x64, .f32⟩
  | .hbm, ⟨107, _⟩ => ⟨S4x6x64x8192, .f32⟩
  | .hbm, ⟨108, _⟩ => ⟨S4x8192x6x64, .f32⟩
  | .hbm, ⟨109, _⟩ => ⟨S4x8192x384, .f32⟩
  | .hbm, ⟨110, _⟩ => ⟨S4x8192x384, .bf16⟩
  | _, _ => ⟨S4x8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v12 : Ref sig .tc := ⟨.hbm, 37, rfl⟩
abbrev main_c_3 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_c_4 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_5 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_6 : Ref sig .tc := ⟨.hbm, 88, rfl⟩
abbrev main_call2_v0 : Ref sig .tc := ⟨.hbm, 89, rfl⟩
abbrev main_call2_v1 : Ref sig .tc := ⟨.hbm, 90, rfl⟩
abbrev main_v44 : Ref sig .tc := ⟨.hbm, 91, rfl⟩
abbrev main_cst_7 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst_8 : Ref sig .tc := ⟨.hbm, 98, rfl⟩
abbrev main_v50 : Ref sig .tc := ⟨.hbm, 99, rfl⟩
abbrev main_v51 : Ref sig .tc := ⟨.hbm, 100, rfl⟩
abbrev main_cst_9 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x384 : Shape := ⟨3, ![4, 8192, 384]⟩
abbrev S4x8192x256 : Shape := ⟨3, ![4, 8192, 256]⟩
abbrev S1x5120x128x6x64 : Shape := ⟨5, ![1, 5120, 128, 6, 64]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024x1024 : Shape := ⟨2, ![1024, 1024]⟩
abbrev S1024x5632 : Shape := ⟨2, ![1024, 5632]⟩
abbrev S2816x1024 : Shape := ⟨2, ![2816, 1024]⟩
abbrev S5120x128x6x64 : Shape := ⟨4, ![5120, 128, 6, 64]⟩
abbrev S5120x6x64x128 : Shape := ⟨4, ![5120, 6, 64, 128]⟩
abbrev S3x5632 : Shape := ⟨2, ![3, 5632]⟩
abbrev S4x8x5632 : Shape := ⟨3, ![4, 8, 5632]⟩
abbrev S5120x384 : Shape := ⟨2, ![5120, 384]⟩
abbrev S1x256x1024 : Shape := ⟨3, ![1, 256, 1024]⟩
abbrev S1x256x384 : Shape := ⟨3, ![1, 256, 384]⟩
abbrev S1x256x256 : Shape := ⟨3, ![1, 256, 256]⟩
abbrev S40x6x64x128 : Shape := ⟨4, ![40, 6, 64, 128]⟩
abbrev S1x8x5632 : Shape := ⟨3, ![1, 8, 5632]⟩
abbrev S40x384 : Shape := ⟨2, ![40, 384]⟩
abbrev S8x5632 : Shape := ⟨2, ![8, 5632]⟩
abbrev S256x2816 : Shape := ⟨2, ![256, 2816]⟩
abbrev S256x1024 : Shape := ⟨2, ![256, 1024]⟩
abbrev S256x384 : Shape := ⟨2, ![256, 384]⟩
abbrev S256x256 : Shape := ⟨2, ![256, 256]⟩
abbrev S256 : Shape := ⟨1, ![256]⟩
abbrev S256x1 : Shape := ⟨2, ![256, 1]⟩
abbrev S8x6x64x128 : Shape := ⟨4, ![8, 6, 64, 128]⟩
abbrev S8x1x64x128 : Shape := ⟨4, ![8, 1, 64, 128]⟩
abbrev S8x64x128 : Shape := ⟨3, ![8, 64, 128]⟩
abbrev S8x64 : Shape := ⟨2, ![8, 64]⟩
abbrev S8x384 : Shape := ⟨2, ![8, 384]⟩
abbrev S1024x256 : Shape := ⟨2, ![1024, 256]⟩
abbrev S8x256 : Shape := ⟨2, ![8, 256]⟩
abbrev S1x256 : Shape := ⟨2, ![1, 256]⟩
abbrev S1x8x256 : Shape := ⟨3, ![1, 8, 256]⟩
abbrev S3x256 : Shape := ⟨2, ![3, 256]⟩

abbrev nBuf : Space → Nat
  | .hbm => 22
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x8192x384, .bf16⟩
  | .hbm, ⟨2, _⟩ => ⟨S4x8192x384, .bf16⟩
  | .hbm, ⟨3, _⟩ => ⟨S4x8192x256, .bf16⟩
  | .hbm, ⟨4, _⟩ => ⟨S1x5120x128x6x64, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x3x5632, .f32⟩
  | .hbm, ⟨9, _⟩ => ⟨S1x2816x1024, .f32⟩
  | .hbm, ⟨10, _⟩ => ⟨S1024x1024, .f32⟩
  | .hbm, ⟨11, _⟩ => ⟨S1024x1024, .bf16⟩
  | .hbm, ⟨12, _⟩ => ⟨S1024x5632, .f32⟩
  | .hbm, ⟨13, _⟩ => ⟨S1024x5632, .bf16⟩
  | .hbm, ⟨14, _⟩ => ⟨S2816x1024, .f32⟩
  | .hbm, ⟨15, _⟩ => ⟨S2816x1024, .bf16⟩
  | .hbm, ⟨16, _⟩ => ⟨S5120x128x6x64, .f32⟩
  | .hbm, ⟨17, _⟩ => ⟨S5120x6x64x128, .f32⟩
  | .hbm, ⟨18, _⟩ => ⟨S3x5632, .f32⟩
  | .hbm, ⟨19, _⟩ => ⟨S4x8192x1024, .f32⟩
  | .hbm, ⟨20, _⟩ => ⟨S4x8x5632, .f32⟩
  | .hbm, ⟨21, _⟩ => ⟨S5120x384, .f32⟩
  | .local _ .vmem, ⟨0, _⟩ => ⟨S1x256x1024, .f32⟩
  | .local _ .vmem, ⟨1, _⟩ => ⟨S1x256x1024, .f32⟩
  | .local _ .vmem, ⟨2, _⟩ => ⟨S1x256x384, .bf16⟩
  | .local _ .vmem, ⟨3, _⟩ => ⟨S1x256x384, .bf16⟩
  | .local _ .vmem, ⟨4, _⟩ => ⟨S1x256x384, .bf16⟩
  | .local _ .vmem, ⟨5, _⟩ => ⟨S1x256x384, .bf16⟩
  | .local _ .vmem, ⟨6, _⟩ => ⟨S1x256x256, .bf16⟩
  | .local _ .vmem, ⟨7, _⟩ => ⟨S1x256x256, .bf16⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S2816x1024, .bf16⟩
  | .local _ .vmem, ⟨13, _⟩ => ⟨S40x6x64x128, .f32⟩
  | .local _ .vmem, ⟨14, _⟩ => ⟨S40x6x64x128, .f32⟩
  | .local _ .vmem, ⟨15, _⟩ => ⟨S1x256x1024, .f32⟩
  | .local _ .vmem, ⟨16, _⟩ => ⟨S1x256x1024, .f32⟩
  | .local _ .vmem, ⟨17, _⟩ => ⟨S1x8x5632, .f32⟩
  | .local _ .vmem, ⟨18, _⟩ => ⟨S1x8x5632, .f32⟩
  | .local _ .vmem, ⟨19, _⟩ => ⟨S40x384, .f32⟩
  | .local _ .vmem, ⟨20, _⟩ => ⟨S40x384, .f32⟩
  | .local _ .vmem, ⟨21, _⟩ => ⟨S8x5632, .f32⟩
  | .local _ .vmem, ⟨22, _⟩ => ⟨S256x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S40x6x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S40x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S4x8192x1024 : Shape := ⟨3, ![4, 8192, 1024]⟩
abbrev S4x8192x384 : Shape := ⟨3, ![4, 8192, 384]⟩
abbrev S4x8192x256 : Shape := ⟨3, ![4, 8192, 256]⟩
abbrev S1x5120x128x6x64 : Shape := ⟨5, ![1, 5120, 128, 6, 64]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S3x5632 : Shape := ⟨2, ![3, 5632]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S1024x5632 : Shape := ⟨2, ![1024, 5632]⟩
abbrev S4x8192x5632 : Shape := ⟨3, ![4, 8192, 5632]⟩
abbrev S4x2x5632 : Shape := ⟨3, ![4, 2, 5632]⟩
abbrev S4x8194x5632 : Shape := ⟨3, ![4, 8194, 5632]⟩
abbrev S1x5632 : Shape := ⟨2, ![1, 5632]⟩
abbrev S5632 : Shape := ⟨1, ![5632]⟩
abbrev S1x1x5632 : Shape := ⟨3, ![1, 1, 5632]⟩
abbrev S4x8192x2816 : Shape := ⟨3, ![4, 8192, 2816]⟩
abbrev S2816x1024 : Shape := ⟨2, ![2816, 1024]⟩
abbrev S5120x128x6x64 : Shape := ⟨4, ![5120, 128, 6, 64]⟩
abbrev S5120x6x64 : Shape := ⟨3, ![5120, 6, 64]⟩
abbrev S5120x384 : Shape := ⟨2, ![5120, 384]⟩
abbrev S4x8x5632 : Shape := ⟨3, ![4, 8, 5632]⟩

abbrev nBuf : Space → Nat
  | .hbm => 80
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x384, .bf16⟩
  | .hbm, ⟨2, _⟩ => ⟨S4x8192x384, .bf16⟩
  | .hbm, ⟨3, _⟩ => ⟨S4x8192x256, .bf16⟩
  | .hbm, ⟨4, _⟩ => ⟨S1x5120x128x6x64, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x3x5632, .f32⟩
  | .hbm, ⟨9, _⟩ => ⟨S1x2816x1024, .f32⟩
  | .hbm, ⟨10, _⟩ => ⟨S3x5632, .f32⟩
  | .hbm, ⟨11, _⟩ => ⟨S4x8192x384, .f32⟩
  | .hbm, ⟨12, _⟩ => ⟨S4x8192x384, .f32⟩
  | .hbm, ⟨13, _⟩ => ⟨S4x8192x256, .f32⟩
  | .hbm, ⟨14, _⟩ => ⟨S4x8192x1024, .f32⟩
  | .hbm, ⟨15, _⟩ => ⟨S1024x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x1024, .f32⟩
  | .hbm, ⟨30, _⟩ => ⟨S4x8192x1024, .f32⟩
  | .hbm, ⟨31, _⟩ => ⟨S1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S1024x5632, .f32⟩
  | .hbm, ⟨36, _⟩ => ⟨S4x8192x5632, .f32⟩
  | .hbm, ⟨37, _⟩ => ⟨S_, .f32⟩
  | .hbm, ⟨38, _⟩ => ⟨S4x2x5632, .f32⟩
  | .hbm, ⟨39, _⟩ => ⟨S4x8194x5632, .f32⟩
  | .hbm, ⟨40, _⟩ => ⟨S1x5632, .f32⟩
  | .hbm, ⟨41, _⟩ => ⟨S5632, .f32⟩
  | .hbm, ⟨42, _⟩ => ⟨S4x8192x5632, .f32⟩
  | .hbm, ⟨43, _⟩ => ⟨S1x1x5632, .f32⟩
  | .hbm, ⟨44, _⟩ => ⟨S4x8192x5632, .f32⟩
  | .hbm, ⟨45, _⟩ => ⟨S4x8192x5632, .f32⟩
  | .hbm, ⟨46, _⟩ => ⟨S1x5632, .f32⟩
  | .hbm, ⟨47, _⟩ => ⟨S5632, .f32⟩
  | .hbm, ⟨48, _⟩ => ⟨S4x8192x5632, .f32⟩
  | .hbm, ⟨49, _⟩ => ⟨S1x1x5632, .f32⟩
  | .hbm, ⟨50, _⟩ => ⟨S4x8192x5632, .f32⟩
  | .hbm, ⟨51, _⟩ => ⟨S4x8192x5632, .f32⟩
  | .hbm, ⟨52, _⟩ => ⟨S4x8192x5632, .f32⟩
  | .hbm, ⟨53, _⟩ => ⟨S1x5632, .f32⟩
  | .hbm, ⟨54, _⟩ => ⟨S5632, .f32⟩
  | .hbm, ⟨55, _⟩ => ⟨S4x8192x5632, .f32⟩
  | .hbm, ⟨56, _⟩ => ⟨S1x1x5632, .f32⟩
  | .hbm, ⟨57, _⟩ => ⟨S4x8192x5632, .f32⟩
  | .hbm, ⟨58, _⟩ => ⟨S4x8192x5632, .f32⟩
  | .hbm, ⟨59, _⟩ => ⟨S4x8192x5632, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S4x8192x2816, .f32⟩
  | .hbm, ⟨64, _⟩ => ⟨S_, .f32⟩
  | .hbm, ⟨65, _⟩ => ⟨S4x8192x2816, .f32⟩
  | .hbm, ⟨66, _⟩ => ⟨S4x8192x2816, .f32⟩
  | .hbm, ⟨67, _⟩ => ⟨S_, .f32⟩
  | .hbm, ⟨68, _⟩ => ⟨S4x8192x2816, .f32⟩
  | .hbm, ⟨69, _⟩ => ⟨S4x8192x2816, .f32⟩
  | .hbm, ⟨70, _⟩ => ⟨S4x8192x2816, .f32⟩
  | .hbm, ⟨71, _⟩ => ⟨S4x8192x2816, .f32⟩
  | .hbm, ⟨72, _⟩ => ⟨S2816x1024, .f32⟩
  | .hbm, ⟨73, _⟩ => ⟨S4x8192x1024, .f32⟩
  | .hbm, ⟨74, _⟩ => ⟨S4x8192x1024, .f32⟩
  | .hbm, ⟨75, _⟩ => ⟨S5120x128x6x64, .f32⟩
  | .hbm, ⟨76, _⟩ => ⟨S_, .f32⟩
  | .hbm, ⟨77, _⟩ => ⟨S5120x6x64, .f32⟩
  | .hbm, ⟨78, _⟩ => ⟨S5120x384, .f32⟩
  | .hbm, ⟨79, _⟩ => ⟨S4x8x5632, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_3 : Ref sig .tc := ⟨.hbm, 64, rfl⟩
abbrev main_v50 : Ref sig .tc := ⟨.hbm, 65, rfl⟩
abbrev main_v51 : Ref sig .tc := ⟨.hbm, 66, rfl⟩
abbrev main_cst_4 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Proof.PostRef.lean ====
/- The reference of the out-projection and feed-forward part, cut into named steps: each step is one line of the
   reference over the array of the step before. -/
module

public import proofs.«01_k».proof.Proof.Gen.Reference2Ideal
public import Idealize.ShloMosaic.Lib.Pipeline.ValueKit

@[expose] public section

set_option maxRecDepth 16384

noncomputable section

namespace Cert.PostRef

open Idealize.ShloMosaic Idealize.ShloMosaic.TcCoe Idealize.SL.Sem
open Cert.Reference2Ideal Cert.Reference2Ideal.Gen

/-- The residual stream after the out-projection of the three mixers' outputs, side by side. -/
def hid (X : FVec Ideal S4x8192x1024 .f32) (C A : FVec Ideal S4x8192x384 .bf16) (M : FVec Ideal S4x8192x256 .bf16)
    (W : FVec Ideal S1x1024x1024 .f32) : FVec Ideal S4x8192x1024 .f32 :=
  addf X (Host.dotGeneral dot_S4x8192x1024_S1024x1024_S4x8192x1024_2_0_01_1_n_n none (concatenate S4x8192x1024 2 [⟨S4x8192x384, extf .f32 C bitsLt_bf16_f32⟩, ⟨S4x8192x384, extf .f32 A bitsLt_bf16_f32⟩, ⟨S4x8192x256, extf .f32 M bitsLt_bf16_f32⟩] concatenates_S4x8192x384_S4x8192x384_S4x8192x256_S4x8192x1024_d2) (shapeCast _ W shapeCasts_S1x1024x1024_S1024x1024))

/-- The stream over its root mean square, times the norm's weights. -/
def normed (H : FVec Ideal S4x8192x1024 .f32) (G : FVec Ideal S1x1024 .f32) : FVec Ideal S4x8192x1024 .f32 :=
  mulf (mulf H (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf H H) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ G shapeCasts_S1x1024_S1024)))

/-- The up-projection. -/
def up (N : FVec Ideal S4x8192x1024 .f32) (W : FVec Ideal S1x1024x5632 .f32) : FVec Ideal S4x8192x5632 .f32 :=
  Host.dotGeneral dot_S4x8192x1024_S1024x5632_S4x8192x5632_2_0_01_1_n_n none N (shapeCast _ W shapeCasts_S1x1024x5632_S1024x5632)

/-- Two rows of zeros before each sequence of the up-projection. -/
def ext (U : FVec Ideal S4x8192x5632 .f32) : FVec Ideal S4x8194x5632 .f32 :=
  concatenate S4x8194x5632 1 [⟨S4x2x5632, broadcastInDim S4x2x5632 ![] bcast_S_S4x2x5632 (constant S_ .f32 0x00000000#32)⟩, ⟨S4x8192x5632, U⟩] concatenates_S4x2x5632_S4x8192x5632_S4x8194x5632_d1

/-- The convolution over three rows, channel by channel. -/
def conv (U : FVec Ideal S4x8192x5632 .f32) (W : FVec Ideal S1x3x5632 .f32) : FVec Ideal S4x8192x5632 .f32 :=
  addf (addf (mulf (broadcastInDim S4x8192x5632 ![0, 1, 2] bcast_S1x1x5632_S4x8192x5632_0_1_2 (broadcastInDim S1x1x5632 ![2] bcast_S5632_S1x1x5632_2 (shapeCast _ (extractStridedSlice S1x5632 ![0, 0] (shapeCast _ W shapeCasts_S1x3x5632_S3x5632) slices_S3x5632_S1x5632_0_0) shapeCasts_S1x5632_S5632))) (extractStridedSlice S4x8192x5632 ![0, 0, 0] (ext U) slices_S4x8194x5632_S4x8192x5632_0_0_0)) (mulf (broadcastInDim S4x8192x5632 ![0, 1, 2] bcast_S1x1x5632_S4x8192x5632_0_1_2 (broadcastInDim S1x1x5632 ![2] bcast_S5632_S1x1x5632_2 (shapeCast _ (extractStridedSlice S1x5632 ![1, 0] (shapeCast _ W shapeCasts_S1x3x5632_S3x5632) slices_S3x5632_S1x5632_1_0) shapeCasts_S1x5632_S5632))) (extractStridedSlice S4x8192x5632 ![0, 1, 0] (ext U) slices_S4x8194x5632_S4x8192x5632_0_1_0))) (mulf (broadcastInDim S4x8192x5632 ![0, 1, 2] bcast_S1x1x5632_S4x8192x5632_0_1_2 (broadcastInDim S1x1x5632 ![2] bcast_S5632_S1x1x5632_2 (shapeCast _ (extractStridedSlice S1x5632 ![2, 0] (shapeCast _ W shapeCasts_S1x3x5632_S3x5632) slices_S3x5632_S1x5632_2_0) shapeCasts_S1x5632_S5632))) (extractStridedSlice S4x8192x5632 ![0, 2, 0] (ext U) slices_S4x8194x5632_S4x8192x5632_0_2_0))

/-- The gate: the second half through the logistic function, times itself, times the first half. -/
def act (V : FVec Ideal S4x8192x5632 .f32) : FVec Ideal S4x8192x2816 .f32 :=
  mulf (mulf (extractStridedSlice S4x8192x2816 ![0, 0, 2816] V slices_S4x8192x5632_S4x8192x2816_0_0_2816) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (extractStridedSlice S4x8192x2816 ![0, 0, 2816] V slices_S4x8192x5632_S4x8192x2816_0_0_2816)))))) (extractStridedSlice S4x8192x2816 ![0, 0, 0] V slices_S4x8192x5632_S4x8192x2816_0_0_0)

/-- The down-projection, added to the stream. -/
def down (H : FVec Ideal S4x8192x1024 .f32) (A : FVec Ideal S4x8192x2816 .f32) (W : FVec Ideal S1x2816x1024 .f32) :
    FVec Ideal S4x8192x1024 .f32 :=
  addf H (Host.dotGeneral dot_S4x8192x2816_S2816x1024_S4x8192x1024_2_0_01_1_n_n none A (shapeCast _ W shapeCasts_S1x2816x1024_S2816x1024))

/-- The last eight rows of each sequence. -/
def tail (U : FVec Ideal S4x8192x5632 .f32) : FVec Ideal S4x8x5632 .f32 :=
  extractStridedSlice S4x8x5632 ![0, 8184, 0] U slices_S4x8192x5632_S4x8x5632_0_8184_0

/-- The sums of the cached keys over each page. -/
def pages (K : FVec Ideal S1x5120x128x6x64 .f32) : FVec Ideal S5120x384 .f32 :=
  shapeCast _ (Host.reduceAdd (shapeCast _ K shapeCasts_S1x5120x128x6x64_S5120x128x6x64) (constant S_ .f32 0x00000000#32) reducesTo_S5120x128x6x64_S5120x6x64_d1 h_S_) shapeCasts_S5120x6x64_S5120x384

end Cert.PostRef

end
-- ==== Proof.PostPoint.lean ====
/- What the second kernel computes at a grid point, read against the reference's steps: the residual stream, the norm, the up-projection and
   what follows it, each at one index of the block and the index of the array it stands for. -/
module

public import proofs.«01_k».proof.Proof.PostRef
public import proofs.«01_k».proof.Proof.Gen.Kernel2Ideal.Frame
public import Idealize.ShloMosaic.Lib.Pipeline.ValueKit

@[expose] public section

set_option maxRecDepth 16384

noncomputable section

namespace Cert.PostPoint

open Idealize.ShloMosaic Idealize.ShloMosaic.TcCoe Idealize.SL.Sem
open Idealize.ShloMosaic.Pipeline (Dat)
open Cert.Kernel2Ideal Cert.Kernel2Ideal.Gen Cert.PostRef

variable (m : (ℓ : Loc nD τ sig) → Buf (Elt Ideal) ℓ)

/-- Where each window's block sits at a point, and how far the point's numbers go. -/
theorem idx : ∀ t : Fin cfg0.N, win0_0.index t = ![t.val / 32, t.val % 32, 0] ∧ win0_1.index t = ![t.val / 32, t.val % 32, 0]
    ∧ win0_2.index t = ![t.val / 32, t.val % 32, 0] ∧ win0_3.index t = ![t.val / 32, t.val % 32, 0] ∧ win0_4.index t = ![0, 0]
    ∧ win0_5.index t = ![0, 0] ∧ win0_6.index t = ![0, 0] ∧ win0_7.index t = ![0, 0] ∧ win0_8.index t = ![0, 0]
    ∧ win0_9.index t = ![t.val, 0, 0, 0] ∧ win0_10.index t = ![t.val / 32, t.val % 32, 0] ∧ win0_11.index t = ![t.val / 32, 0, 0]
    ∧ win0_12.index t = ![t.val, 0] ∧ t.val < 128 :=
  (by decide +kernel : ∀ t : Fin grid0.N, _)

/-- The residual stream's block. -/
def H (c : Dev nD) := hid (m ((c : Thread nD τ).loc main_arg0)) (m ((c : Thread nD τ).loc main_arg1)) (m ((c : Thread nD τ).loc main_arg2))
  (m ((c : Thread nD τ).loc main_arg3)) (m ((c : Thread nD τ).loc main_arg5))

theorem hid_at (c : Dev nD) (t : Fin cfg0.N) (y : S256x1024.Idx) (z : Cert.Reference2Ideal.S4x8192x1024.Idx)
    (h0 : (z 0 : ℕ) = t.val / 32) (h1 : (z 1 : ℕ) = 256 * (t.val % 32) + y 0) (h2 : (z 2 : ℕ) = y 1) :
    k0_pay4 (F := Ideal) (iblk m c 0 t) (iblk m c 1 t) (iblk m c 2 t) (iblk m c 3 t) (iblk m c 4 t) y = H m c z := by
  pointwise [k0_pay4, H, hid]
  blk_point [iblk, V, idx t]

/-- The normed stream. -/
def Nrm (c : Dev nD) := normed (H m c) (m ((c : Thread nD τ).loc main_arg6))

/-- The normed stream's block, as the kernel has it. -/
abbrev hn (c : Dev nD) (t : Fin cfg0.N) :=
  k0_pay5 (F := Ideal) (iblk m c 0 t) (iblk m c 1 t) (iblk m c 2 t) (iblk m c 3 t) (iblk m c 4 t) (iblk m c 5 t)

theorem normed_at (c : Dev nD) (t : Fin cfg0.N) (y : S256x1024.Idx) (z : Cert.Reference2Ideal.S4x8192x1024.Idx)
    (h0 : (z 0 : ℕ) = t.val / 32) (h1 : (z 1 : ℕ) = 256 * (t.val % 32) + y 0) (h2 : (z 2 : ℕ) = y 1) :
    hn m c t y = Nrm m c z := by
  pointwise [hn, k0_pay5, Nrm, normed]
  have e : ∀ x : Fin 1024, k0_pay4 (F := Ideal) (iblk m c 0 t) (iblk m c 1 t) (iblk m c 2 t) (iblk m c 3 t) (iblk m c 4 t) (ix2 (y 0) x)
      = H m c (ix3 (z 0) (z 1) x) := fun x => hid_at m c t _ _ h0 h1 rfl
  simp only [e, hid_at m c t y z h0 h1 h2]
  blk_point [iblk, V, idx t]

/-- The up-projection. -/
def Up (c : Dev nD) := up (Nrm m c) (m ((c : Thread nD τ).loc main_arg7))

theorem up_at (c : Dev nD) (t : Fin cfg0.N) (off : ℕ) (inb) (y : S256x256.Idx) (z : Cert.Reference2Ideal.S4x8192x5632.Idx)
    (h0 : (z 0 : ℕ) = t.val / 32) (h1 : (z 1 : ℕ) = 256 * (t.val % 32) + y 0) (h2 : (z 2 : ℕ) = off + y 1) :
    k0_pay7 (F := Ideal) (hn m c t) (View.ld (iblk m c 6 t) (Rect.unit ![0, off] ![1024, 256] inb)) y = Up m c z := by
  pointwise [k0_pay7, Up, up]
  refine Fin.sum_fin_congr fun x => ?_
  rw [normed_at m c t (ix2 (y 0) x) (ix3 (z 0) (z 1) x) h0 h1 rfl]
  blk_point [iblk, V, idx t]

/-- The up-projection behind its two rows of zeros. -/
abbrev Ext (c : Dev nD) := ext (Up m c)

/-- The two rows before each sequence are zero. -/
theorem ext_low (c : Dev nD) (z : Cert.Reference2Ideal.S4x8194x5632.Idx) (h : (z 1 : ℕ) < 2) : Ext m c z = 0 := by
  pointwise [Ext, ext]
  exact dif_pos h

/-- Two rows further down is the up-projection itself. -/
theorem ext_high (c : Dev nD) (z : Cert.Reference2Ideal.S4x8194x5632.Idx) (z' : Cert.Reference2Ideal.S4x8192x5632.Idx)
    (h0 : (z 0 : ℕ) = z' 0) (h1 : (z 1 : ℕ) = z' 1 + 2) (h2 : (z 2 : ℕ) = z' 2) : Ext m c z = Up m c z' := by
  pointwise [Ext, ext]
  rw [dif_neg (by omega)]
  blk_ext

/-- A choice by an equation of small numbers, spelt over words. -/
theorem sel_zero (n : Fin 256) (a b : EReal) :
    Scalar.select (IntOp.cmpi CmpIPredicate.eq (BitVec.ofNat 32 n.val) 0#32) a b = if n.val = 0 then a else b := by
  have e : IntOp.cmpi CmpIPredicate.eq (BitVec.ofNat 32 n.val) 0#32 = if n.val = 0 then 1#1 else 0#1 :=
    (by decide : ∀ n : Fin 256, IntOp.cmpi CmpIPredicate.eq (BitVec.ofNat 32 n.val) 0#32 = if n.val = 0 then 1#1 else 0#1) n
  rw [e]; split <;> rfl
theorem sel_one (n : Fin 256) (a b : EReal) :
    Scalar.select (IntOp.cmpi CmpIPredicate.eq (BitVec.ofNat 32 n.val) 1#32) a b = if n.val = 1 then a else b := by
  have e : IntOp.cmpi CmpIPredicate.eq (BitVec.ofNat 32 n.val) 1#32 = if n.val = 1 then 1#1 else 0#1 :=
    (by decide : ∀ n : Fin 256, IntOp.cmpi CmpIPredicate.eq (BitVec.ofNat 32 n.val) 1#32 = if n.val = 1 then 1#1 else 0#1) n
  rw [e]; split <;> rfl

/-- Half a chunk of the convolution, as the kernel has it for its first chunk: over the normed block, the half's columns of the up-projection's
    weights, the rows carried from the block before, and the half's columns of the convolution's weights. -/
abbrev half (h : FVec Ideal S256x1024 .bf16) (w : FVec Ideal S1024x256 .bf16) (cr : FVec Ideal S8x256 .f32) (cw : FVec Ideal S3x256 .f32) :=
  k0_pay16 (F := Ideal) (k0_pay7 h w) (k0_pay8 cr) (k0_pay9 cr) (k0_pay10 h w cr) k0_pay11 k0_pay12 (k0_pay13 h w) cw

/-- The convolution. -/
def Cv (c : Dev nD) := conv (Up m c) (m ((c : Thread nD τ).loc main_arg8))

/-- The rows a block finds carried: the last two of the block before, of the columns from `off` on, or zeros before the first block. -/
def Carried (c : Dev nD) (t : Fin cfg0.N) (off : ℕ) (cr : FVec Ideal S8x256 .f32) : Prop :=
  ∀ (n : Fin 256) (z : Cert.Reference2Ideal.S4x8194x5632.Idx), (z 0 : ℕ) = t.val / 32 → (z 2 : ℕ) = off + n →
    ((z 1 : ℕ) = 256 * (t.val % 32) → cr (ix2 6 n) = Ext m c z) ∧ ((z 1 : ℕ) = 256 * (t.val % 32) + 1 → cr (ix2 7 n) = Ext m c z)

/-- Half a chunk is the reference's convolution. -/
theorem half_at (c : Dev nD) (t : Fin cfg0.N) (off : ℕ) (inb inb') (cr : FVec Ideal S8x256 .f32) (y : S256x256.Idx)
    (z : Cert.Reference2Ideal.S4x8192x5632.Idx)
    (h0 : (z 0 : ℕ) = t.val / 32) (h1 : (z 1 : ℕ) = 256 * (t.val % 32) + y 0) (h2 : (z 2 : ℕ) = off + y 1)
    (hc : Carried m c t off cr) :
    half (hn m c t) (View.ld (iblk m c 6 t) (Rect.unit ![0, off] ![1024, 256] inb)) cr
      (View.ld (iblk m c 7 t) (Rect.unit ![0, off] ![3, 256] inb')) y = Cv m c z := by
  pointwise [half, k0_pay16, k0_pay8, k0_pay9, k0_pay10, k0_pay11, k0_pay12, k0_pay13, Cv, conv]
  have hy : (y 0).val < 256 := (y 0).isLt
  -- the row itself, one and two rows up, of the up-projection behind its zeros
  have r0 : ∀ (x : S256x256.Idx) (z' : Cert.Reference2Ideal.S4x8194x5632.Idx), (z' 0 : ℕ) = z 0 → (z' 1 : ℕ) = 256 * (t.val % 32) + x 0 + 2 →
      (z' 2 : ℕ) = z 2 → (x 1 : ℕ) = y 1 →
      k0_pay7 (F := Ideal) (hn m c t) (View.ld (iblk m c 6 t) (Rect.unit ![0, off] ![1024, 256] inb)) x = Ext m c z' := fun x z' e0 e1 e2 ex => by
    have := (x 0).isLt
    have hx : (x 0).val < 256 := (x 0).isLt
    have ht : t.val % 32 < 32 := Nat.mod_lt _ (by decide)
    rw [up_at m c t off inb x (ix3 (z 0) ⟨256 * (t.val % 32) + x 0, by omega⟩ (z 2)) h0 rfl (by show (z 2 : ℕ) = _; omega)]
    exact (ext_high m c z' (ix3 (z 0) ⟨256 * (t.val % 32) + x 0, by omega⟩ (z 2)) e0 e1 e2).symm
  rw [sel_zero (y 0), sel_zero (y 0), sel_one (y 0)]
  have e2 : ∀ z' : Cert.Reference2Ideal.S4x8194x5632.Idx, (z' 0 : ℕ) = z 0 → (z' 1 : ℕ) = z 1 → (z' 2 : ℕ) = z 2 →
      (if (y 0).val = 0 then cr (ix2 6 (y 1)) else if (y 0).val = 1 then cr (ix2 7 (y 1))
        else k0_pay7 (F := Ideal) (hn m c t) (View.ld (iblk m c 6 t) (Rect.unit ![0, off] ![1024, 256] inb))
          (ix2 ⟨((y 0).val + 256 - 2) % 256, Nat.mod_lt _ (by decide)⟩ (y 1))) = Ext m c z' := fun z' a0 a1 a2 => by
    split
    · exact (hc (y 1) z' (by omega) (by omega)).1 (by omega)
    split
    · exact (hc (y 1) z' (by omega) (by omega)).2 (by omega)
    · exact r0 _ z' a0 (by show _ = 256 * (t.val % 32) + ((y 0).val + 256 - 2) % 256 + 2; omega) a2 rfl
  have e1 : ∀ z' : Cert.Reference2Ideal.S4x8194x5632.Idx, (z' 0 : ℕ) = z 0 → (z' 1 : ℕ) = 1 + z 1 → (z' 2 : ℕ) = z 2 →
      (if (y 0).val = 0 then cr (ix2 7 (y 1))
        else k0_pay7 (F := Ideal) (hn m c t) (View.ld (iblk m c 6 t) (Rect.unit ![0, off] ![1024, 256] inb))
          (ix2 ⟨((y 0).val + 256 - 1) % 256, Nat.mod_lt _ (by decide)⟩ (y 1))) = Ext m c z' := fun z' a0 a1 a2 => by
    split
    · exact (hc (y 1) z' (by omega) (by omega)).2 (by omega)
    · exact r0 _ z' a0 (by show _ = 256 * (t.val % 32) + ((y 0).val + 256 - 1) % 256 + 2; omega) a2 rfl
  refine congrArg₂ (· + ·) (congrArg₂ (· + ·) (congrArg₂ (· * ·) ?_ (e2 _ rfl rfl rfl)) (congrArg₂ (· * ·) ?_ (e1 _ rfl rfl rfl)))
    (congrArg₂ (· * ·) ?_ (r0 y _ rfl ?_ rfl rfl))
  all_goals first | (show _ = _; blk_point [iblk, V, idx t]) | (show 2 + (z 1 : ℕ) = _; omega)

/-- The gate of a chunk of the convolution: the first half, and the second half's inputs. -/
abbrev gate (a : FVec Ideal S256x256 .f32) (h : FVec Ideal S256x1024 .bf16) (w : FVec Ideal S1024x256 .bf16) (cr : FVec Ideal S8x256 .f32)
    (cw : FVec Ideal S3x256 .f32) :=
  k0_pay25 (F := Ideal) a (k0_pay17 h w) (k0_pay18 cr) (k0_pay19 cr) (k0_pay20 h w cr) k0_pay21 k0_pay22 cw

/-- The gate in terms of the second half's convolution. -/
theorem gate_eq (a : FVec Ideal S256x256 .f32) (h : FVec Ideal S256x1024 .bf16) (w : FVec Ideal S1024x256 .bf16) (cr : FVec Ideal S8x256 .f32)
    (cw : FVec Ideal S3x256 .f32) (y : S256x256.Idx) :
    gate a h w cr cw y = half h w cr cw y * Ideal.div 1 (1 + Ideal.exp (0 - half h w cr cw y)) * a y := by
  pointwise [gate, k0_pay25, half, k0_pay16, k0_pay13]
  rfl

/-- The gated activations. -/
def Act (c : Dev nD) := act (Cv m c)

theorem act_eq (c : Dev nD) (z : Cert.Reference2Ideal.S4x8192x2816.Idx) (za zg : Cert.Reference2Ideal.S4x8192x5632.Idx) (h0 : (za 0 : ℕ) = z 0)
    (h1 : (za 1 : ℕ) = z 1) (h2 : (za 2 : ℕ) = z 2) (g0 : (zg 0 : ℕ) = z 0) (g1 : (zg 1 : ℕ) = z 1) (g2 : (zg 2 : ℕ) = 2816 + z 2) :
    Act m c z = Cv m c zg * Ideal.div 1 (1 + Ideal.exp (0 - Cv m c zg)) * Cv m c za := by
  have ea : za = ix3 (z 0) (z 1) ⟨(z 2).val, (z 2).isLt.trans (by decide)⟩ := by blk_ext
  have eg : zg = ix3 (z 0) (z 1) ⟨2816 + (z 2).val, Nat.add_lt_add_left (z 2).isLt 2816⟩ := by blk_ext
  pointwise [Act, act]
  rw [ea, eg, show ∀ x : EReal, 0 - x = -x from fun x => zero_sub x]
  rfl

/-- A chunk is the reference's activations. -/
theorem chunk_at (c : Dev nD) (t : Fin cfg0.N) (off off' : ℕ) (ho : off' = 2816 + off) (inb inb' inb₁ inb₁') (ca cg : FVec Ideal S8x256 .f32)
    (y : S256x256.Idx) (z : Cert.Reference2Ideal.S4x8192x2816.Idx)
    (h0 : (z 0 : ℕ) = t.val / 32) (h1 : (z 1 : ℕ) = 256 * (t.val % 32) + y 0) (h2 : (z 2 : ℕ) = off + y 1)
    (hca : Carried m c t off ca) (hcg : Carried m c t off' cg) :
    gate (half (hn m c t) (View.ld (iblk m c 6 t) (Rect.unit ![0, off] ![1024, 256] inb)) ca
        (View.ld (iblk m c 7 t) (Rect.unit ![0, off] ![3, 256] inb')))
      (hn m c t) (View.ld (iblk m c 6 t) (Rect.unit ![0, off'] ![1024, 256] inb₁)) cg
      (View.ld (iblk m c 7 t) (Rect.unit ![0, off'] ![3, 256] inb₁')) y = Act m c z := by
  have hz : (z 2).val < 2816 := (z 2).isLt
  rw [gate_eq, half_at m c t off inb inb' ca y (ix3 (z 0) (z 1) ⟨(z 2).val, by omega⟩) h0 h1 h2 hca,
    half_at m c t off' inb₁ inb₁' cg y (ix3 (z 0) (z 1) ⟨2816 + (z 2).val, by omega⟩) h0 h1 (by show 2816 + (z 2 : ℕ) = _; omega) hcg]
  exact (act_eq m c z _ _ rfl rfl rfl rfl rfl rfl).symm

/-- The block's result, from its activations. -/
theorem down_at (c : Dev nD) (t : Fin cfg0.N) (a : FVec Ideal S256x2816 .bf16)
    (ha : ∀ (x : S256x2816.Idx) (z : Cert.Reference2Ideal.S4x8192x2816.Idx), (z 0 : ℕ) = t.val / 32 → (z 1 : ℕ) = 256 * (t.val % 32) + x 0 →
      (z 2 : ℕ) = x 1 → a x = Act m c z)
    (y : S1x256x1024.Idx) (z : Cert.Reference2Ideal.S4x8192x1024.Idx) (h0 : (z 0 : ℕ) = t.val / 32) (h1 : (z 1 : ℕ) = 256 * (t.val % 32) + y 1)
    (h2 : (z 2 : ℕ) = y 2) :
    k0_pay2 (F := Ideal) (k0_pay4 (iblk m c 0 t) (iblk m c 1 t) (iblk m c 2 t) (iblk m c 3 t) (iblk m c 4 t)) a (iblk m c 8 t) y
      = down (H m c) (Act m c) (m (c, main_arg9)) z := by
  pointwise [k0_pay2, down]
  rw [hid_at m c t (ix2 (y 1) (y 2)) z h0 h1 h2]
  refine congrArg (_ + ·) (Fin.sum_fin_congr fun x => ?_)
  rw [ha (ix2 (y 1) x) (ix3 (z 0) (z 1) x) h0 h1 rfl]
  refine congrArg (Act m c (ix3 (z 0) (z 1) x) * ·) ?_
  blk_point [iblk, V, idx t]

/-- What a step leaves of its rows for the next one. -/
theorem leave_at (c : Dev nD) (t : Fin cfg0.N) (off : ℕ) (inb) (x : S8x256.Idx) (z : Cert.Reference2Ideal.S4x8192x5632.Idx)
    (h0 : (z 0 : ℕ) = t.val / 32) (h1 : (z 1 : ℕ) = 256 * (t.val % 32) + 248 + x 0) (h2 : (z 2 : ℕ) = off + x 1) :
    k0_pay14 (k0_pay7 (F := Ideal) (hn m c t) (View.ld (iblk m c 6 t) (Rect.unit ![0, off] ![1024, 256] inb))) x = Up m c z := by
  pointwise [k0_pay14]
  have hx : (x 0).val < 8 := (x 0).isLt
  exact up_at m c t off inb _ z h0 (by show _ = 256 * (t.val % 32) + (248 + (x 0 : ℕ)); omega) h2

/-- A page's element. -/
theorem page_read (c : Dev nD) (t : Fin cfg0.N) (i : Fin 40) (hh : Fin 6) (d : Fin 64) (x : Fin 128) (p : Fin 5120) (a : Fin 6) (b : Fin 64)
    (h0 : (p : ℕ) = 40 * t.val + i) (ha : (a : ℕ) = hh) (hb : (b : ℕ) = d) :
    iblk m c 9 t (ix4 i hh d x) = m (c, main_arg4) (ix5 0 p x a b) := by
  obtain rfl := Fin.ext ha
  obtain rfl := Fin.ext hb
  blk_point [iblk, V, idx t]

/-- A page group's sums, over any block that holds the pages. -/
theorem page_pure (X : Vec Ideal S40x6x64x128 .f32) (K : FVec Ideal S1x5120x128x6x64 .f32) (n off : ℕ) (inb) (y : S8x384.Idx)
    (z : Cert.Reference2Ideal.S5120x384.Idx)
    (hX : ∀ (i : Fin 40) (hh : Fin 6) (d : Fin 64) (x : Fin 128) (p : Fin 5120) (a : Fin 6) (b : Fin 64),
      (p : ℕ) = n + i → (a : ℕ) = hh → (b : ℕ) = d → X (ix4 i hh d x) = K (ix5 0 p x a b))
    (h0 : (z 0 : ℕ) = n + (off + y 0)) (h1 : (z 1 : ℕ) = y 1) :
    k0_pay6 (F := Ideal) (View.ld X (Rect.unit (s := S40x6x64x128) ![off, 0, 0, 0] ![8, 6, 64, 128] inb)) y = pages K z := by
  have hy : (y 1).val < 384 := (y 1).isLt
  pointwise [k0_pay6, pages]
  split_ifs with a1 a2 a3 a4 a5
  all_goals
    refine Fin.sum_fin_congr fun x => hX _ _ _ _ _ _ _ h0 ?_ ?_
    all_goals
      dsimp only
      rw [h1]
      omega

/-- A page group's sums. -/
theorem page_at (c : Dev nD) (t : Fin cfg0.N) (off : ℕ) (inb) (y : S8x384.Idx) (z : Cert.Reference2Ideal.S5120x384.Idx)
    (h0 : (z 0 : ℕ) = 40 * t.val + (off + y 0)) (h1 : (z 1 : ℕ) = y 1) :
    k0_pay6 (F := Ideal) (View.ld (iblk m c 9 t) (Rect.unit ![off, 0, 0, 0] ![8, 6, 64, 128] inb)) y = pages (m (c, main_arg4)) z :=
  page_pure (iblk m c 9 t) (m (c, main_arg4)) (40 * t.val) off inb y z (fun i hh d x p a b => page_read m c t i hh d x p a b) h0 h1

end Cert.PostPoint
-- ==== Proof.PostValue.lean ====
/- The second kernel's three outputs after the run are the reference's: what a step carries to the next, and each output's blocks. -/
module

public import proofs.«01_k».proof.Proof.PostPoint
public import Idealize.ShloMosaic.Lib.Pipeline.ReadBack

@[expose] public section

set_option maxRecDepth 16384

noncomputable section

namespace Cert.PostValue

open Idealize.ShloMosaic Idealize.ShloMosaic.TcCoe Idealize.SL.Sem
open Idealize.ShloMosaic.Pipeline (Dat)
open Cert.Kernel2Ideal Cert.Kernel2Ideal.Gen Cert.PostRef Cert.PostPoint

variable (m : (ℓ : Loc nD τ sig) → Buf (Elt Ideal) ℓ)

/-- Pieces that cover the buffer hide the one stored before them all. -/
theorem canon_dropLast {Val : EltTy → Type} [∀ e, Nonempty (Val e)] {S : Shape} {e : EltTy} (L : List (View.Piece Val S e)) (y : S.Idx)
    (hc : ∃ p ∈ L.dropLast, y ∈ p.1.set) : View.canon L y = View.canon L.dropLast y := by
  induction L with
  | nil => rfl
  | cons p L ih =>
    cases L with
    | nil => obtain ⟨q, hq, -⟩ := hc; exact absurd hq (by simp)
    | cons q L =>
      show View.canon (p :: q :: L) y = View.canon (p :: (q :: L).dropLast) y
      by_cases hm : y ∈ p.1.set
      · obtain ⟨x, rfl⟩ := p.1.exists_idx_of_mem hm
        exact (View.canon_cons_emb p.1 p.2 _ x).trans (View.canon_cons_emb p.1 p.2 _ x).symm
      · rw [View.canon_cons_of_not_mem _ _ hm, View.canon_cons_of_not_mem _ _ hm]
        refine ih ?_
        obtain ⟨r, hr, hy⟩ := hc
        rcases List.mem_cons.mp (show r ∈ p :: (q :: L).dropLast from hr) with rfl | hr'
        · exact absurd hy hm
        · exact ⟨r, hr', hy⟩

/-- What a step carries: the last eight rows of its up-projection. -/
theorem carry_at (c : Dev nD) (t : Fin cfg0.N) (x : S8x5632.Idx) (z : Cert.Reference2Ideal.S4x8192x5632.Idx)
    (h0 : (z 0 : ℕ) = t.val / 32) (h1 : (z 1 : ℕ) = 256 * (t.val % 32) + 248 + x 0) (h2 : (z 2 : ℕ) = x 1) :
    (outsAt0 m c t.val t.isLt).2.2.2 x = Up m c z := by
  by_cases h : t.val % 32 = 0
  · rw [outsAt0_A m c t h]
    frame_out
    refine (canon_dropLast _ x (View.cover_of_tiled _ ![8, 256] rfl x)).trans ?_
    simp only [List.dropLast_cons_cons, List.dropLast_singleton]
    canon_tiles x hx
    all_goals refine leave_at m c t _ _ _ z h0 ?_ ?_
    all_goals omega
  · rw [outsAt0_B m c t h]
    frame_out
    canon_tiles x hx
    all_goals refine leave_at m c t _ _ _ z h0 ?_ ?_
    all_goals omega
/-- A load of the whole of the activations' buffer, stored a chunk at a time, at an index. -/
theorem readCov_all (v : View sig .tc .vmem S256x2816 .bf16) (L : List (View.Piece (Elt Ideal) S256x2816 .bf16)) (inb) (x : S256x2816.Idx) :
    v.readCov L (Rect.unit (s := S256x2816) ![0, 0] ![256, 2816] inb).toLoadRect x = View.canon L x := by
  refine (congrFun (View.readCov_eq_canon' v L (Rect.unit (s := S256x2816) ![0, 0] ![256, 2816] inb).toLoadRect) x).trans (congrArg (View.canon L) (funext fun a => Fin.ext ?_))
  match a with
  | 0 => show 0 + 1 * (x 0).val = (x 0).val; omega
  | 1 => show 0 + 1 * (x 1).val = (x 1).val; omega

/-- Before the first block the carried rows are zeros. -/
theorem carried_zero (c : Dev nD) (t : Fin cfg0.N) (h : t.val % 32 = 0) (off : ℕ) (inb) :
    Carried m c t off (View.ld (Val := Elt Ideal) (e' := .f32) (k0_pay3 (F := Ideal)) (Rect.unit (s := S8x5632) ![0, off] ![8, 256] inb)) := fun n z h0 h2 => by
  refine ⟨fun h1 => ?_, fun h1 => ?_⟩
  all_goals
    rw [ext_low m c z (by omega)]
    pointwise [k0_pay3]

/-- After it they are the last rows of the block before. -/
theorem carried_prev (c : Dev nD) (t : Fin cfg0.N) (h : ¬ t.val % 32 = 0) (ht) (off : ℕ) (inb) :
    Carried m c t off (View.ld (outsAt0 m c (t.val - 1) ht).2.2.2 (Rect.unit (s := S8x5632) ![0, off] ![8, 256] inb)) := fun n z h0 h2 => by
  have hz : (z 1).val < 8194 := (z 1).isLt
  have hm : t.val % 32 < 32 := Nat.mod_lt _ (by decide)
  have e : ∀ (r : Fin 8) (hr : 6 ≤ r.val), (z 1 : ℕ) = 256 * (t.val % 32) + (r.val - 6) →
      View.ld (outsAt0 m c (t.val - 1) ht).2.2.2 (Rect.unit (s := S8x5632) ![0, off] ![8, 256] inb) (ix2 r n) = Ext m c z := fun r hr h1 => by
    rw [ext_high m c z (ix3 (z 0) ⟨(z 1).val - 2, by omega⟩ (z 2)) rfl (by show (z 1 : ℕ) = (z 1 : ℕ) - 2 + 2; omega) rfl]
    refine carry_at m c ⟨t.val - 1, ht⟩ _ _ (by show (z 0 : ℕ) = (t.val - 1) / 32; omega) ?_ ?_
    · show (z 1 : ℕ) - 2 = 256 * ((t.val - 1) % 32) + 248 + (0 + 1 * r.val)
      omega
    · show (z 2 : ℕ) = off + 1 * n.val
      omega
  exact ⟨fun h1 => e 6 (by decide) h1, fun h1 => e 7 (by decide) h1⟩

set_option maxHeartbeats 2000000 in
/-- What a first step leaves of the first output. -/
theorem y_A (c : Dev nD) (t : Fin cfg0.N) (h : t.val % 32 = 0) (y : S1x256x1024.Idx) (z : Cert.Reference2Ideal.S4x8192x1024.Idx)
    (h0 : (z 0 : ℕ) = t.val / 32) (h1 : (z 1 : ℕ) = 256 * (t.val % 32) + y 1) (h2 : (z 2 : ℕ) = y 2) :
    (outsAt0 m c t.val t.isLt).1 y = down (H m c) (Act m c) (m (c, main_arg9)) z := by
  rw [outsAt0_A m c t h]
  frame_open
  simp (disch := decide) only [↓ View.readCov_skip, ↓ View.readCov_cons_toLoadRect, ↓ View.readCov_fill]
  frame_out
  refine down_at m c t _ (fun x z h0 h1 h2 => (readCov_all _ _ _ x).trans ?_) y z h0 h1 h2
  canon_tiles x hx
  all_goals refine chunk_at m c t _ _ ?_ _ _ _ _ _ _ _ z h0 ?_ ?_ ?_ ?_
  all_goals first | omega | exact carried_zero m c t h _ _

set_option maxHeartbeats 2000000 in
/-- What a later step leaves of the first output. -/
theorem y_B (c : Dev nD) (t : Fin cfg0.N) (h : ¬ t.val % 32 = 0) (y : S1x256x1024.Idx) (z : Cert.Reference2Ideal.S4x8192x1024.Idx)
    (h0 : (z 0 : ℕ) = t.val / 32) (h1 : (z 1 : ℕ) = 256 * (t.val % 32) + y 1) (h2 : (z 2 : ℕ) = y 2) :
    (outsAt0 m c t.val t.isLt).1 y = down (H m c) (Act m c) (m (c, main_arg9)) z := by
  rw [outsAt0_B m c t h]
  frame_open
  simp (disch := decide) only [↓ View.readCov_skip, ↓ View.readCov_cons_toLoadRect, ↓ View.readCov_fill]
  frame_out
  refine down_at m c t _ (fun x z h0 h1 h2 => (readCov_all _ _ _ x).trans ?_) y z h0 h1 h2
  simp only [read_unread_whole]
  canon_tiles x hx
  all_goals refine chunk_at m c t _ _ ?_ _ _ _ _ _ _ _ z h0 ?_ ?_ ?_ ?_
  all_goals first | omega | exact carried_prev m c t h _ _ _

/-- The first output is the layer's result. -/
theorem final_y (c : Dev nD) : (dats m 0 c).arrAt 10 (cfgs 0).N = down (H m c) (Act m c) (m (c, main_arg9)) := by
  refine (dats m 0 c).arrAt_eq_of_covers 10 _ (by decide +kernel) fun t hf y => ?_
  blk_simp
  rw [after0_10]
  by_cases h : t.val % 32 = 0
  · refine y_A m c t h y _ ?_ ?_ ?_ <;> blk_simp [idx t] <;> try omega
  · refine y_B m c t h y _ ?_ ?_ ?_ <;> blk_simp [idx t] <;> try omega

/-- The last rows of a sequence, of the columns from `off` on. -/
theorem tail_pay (c : Dev nD) (t : Fin cfg0.N) (off : ℕ) (inb) (y : S1x8x256.Idx) (z : Cert.Reference2Ideal.S4x8x5632.Idx) (h : t.val % 32 = 31)
    (h0 : (z 0 : ℕ) = t.val / 32) (h1 : (z 1 : ℕ) = y 1) (h2 : (z 2 : ℕ) = off + y 2) :
    k0_pay15 (k0_pay7 (F := Ideal) (hn m c t) (View.ld (iblk m c 6 t) (Rect.unit ![0, off] ![1024, 256] inb))) y = tail (Up m c) z := by
  have hy : (y 1).val < 8 := (y 1).isLt
  pointwise [k0_pay15, tail]
  refine up_at m c t off inb _ _ h0 ?_ h2
  · show 8184 + (z 1 : ℕ) = 256 * (t.val % 32) + (248 + (y 1 : ℕ))
    omega

set_option maxHeartbeats 2000000 in
/-- The second output is the up-projection's last rows. -/
theorem final_tail (c : Dev nD) : (dats m 0 c).arrAt 11 (cfgs 0).N = tail (Up m c) := by
  refine (dats m 0 c).arrAt_eq_of_covers 11 _ (by decide +kernel) fun t hf y => ?_
  blk_simp
  rw [after0_11]
  have hf' := (flush0_11 t).mp hf
  rw [outsAt0_B m c t (by omega)]
  frame_out
  canon_tiles y hy
  all_goals refine tail_pay m c t _ _ _ _ hf' ?_ ?_ ?_
  all_goals (blk_simp [idx t] <;> try omega)
/-- The third output is the pages' sums. -/
theorem final_pages (c : Dev nD) : (dats m 0 c).arrAt 12 (cfgs 0).N = pages (m (c, main_arg4)) := by
  refine (dats m 0 c).arrAt_eq_of_covers 12 _ (by decide +kernel) fun t hf y => ?_
  blk_simp
  rw [after0_12]
  by_cases h : t.val % 32 = 0
  · rw [outsAt0_A m c t h]
    frame_out
    canon_tiles y hy
    all_goals refine page_at m c t _ _ _ _ ?_ ?_
    all_goals (blk_simp [idx t] <;> try omega)
  · rw [outsAt0_B m c t h]
    frame_out
    canon_tiles y hy
    all_goals refine page_at m c t _ _ _ _ ?_ ?_
    all_goals (blk_simp [idx t] <;> try omega)

end Cert.PostValue

end
-- ==== Proof.Attn.FrameBits.lean ====
/-
  The attention kernel as compiled: every run ends, the arguments are untouched and the counters are back at zero.
  Nothing is said here of what the kernel leaves in its output, so the output's block is forgotten at every point;
  the four scratch buffers are written before they are read within each point, so nothing is carried between points.
-/
module

public import proofs.«01_k».proof.Proof.Gen.Kernel.Frame
public import proofs.«01_k».proof.Proof.Gen.Kernel.Loops
public import Idealize.ShloMosaic.Lib.Claim

@[expose] public section

set_option maxRecDepth 16384

noncomputable section

namespace Cert.AttnBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of one run. -/
abbrev Res (F : FTy → Type) [FloatOps F] := MT nD τ sig Unit (Elt F) ℕ (UR sig nD τ) ℕ

/-! ## One point -/

/-- What the body is given besides its three inputs: the output's and the scratch buffers at any contents. -/
def Loose (c : Dev nD) (arg6 : Memref sig .tc .vmem S1x256x128 .bf16) (arg7 : Memref sig .tc .vmem S2x2x256x2048 .f32)
    (arg8 : Memref sig .tc .vmem S2x2x256x1 .f32) (arg9 : Memref sig .tc .vmem S2x256x1 .f32) (arg10 : Memref sig .tc .vmem S2x256x128 .f32) :
    sProp (Res F) :=
  iprop((∃ d, owns (c : Thread nD τ) arg6 fullShare d) ∗ (∃ d, owns (c : Thread nD τ) arg7 fullShare d)
    ∗ (∃ d, owns (c : Thread nD τ) arg8 fullShare d) ∗ (∃ d, owns (c : Thread nD τ) arg9 fullShare d)
    ∗ (∃ d, owns (c : Thread nD τ) arg10 fullShare d))

set_option maxHeartbeats 4000000 in
/-- The body runs to its end, keeping its inputs. -/
theorem body (c : Dev nD) (i : grid0.Coords) (arg3 : Memref sig .tc .vmem S1x2x256x128 .bf16) (harg3 : arg3.IsWhole)
    (arg4 : Memref sig .tc .vmem S1x2x8192x128 .bf16) (harg4 : arg4.IsWhole) (arg5 : Memref sig .tc .vmem S1x2x8192x128 .bf16) (harg5 : arg5.IsWhole)
    (arg6 : Memref sig .tc .vmem S1x256x128 .bf16) (harg6 : arg6.IsWhole) (arg7 : Memref sig .tc .vmem S2x2x256x2048 .f32) (harg7 : arg7.IsWhole)
    (arg8 : Memref sig .tc .vmem S2x2x256x1 .f32) (harg8 : arg8.IsWhole) (arg9 : Memref sig .tc .vmem S2x256x1 .f32) (harg9 : arg9.IsWhole)
    (arg10 : Memref sig .tc .vmem S2x256x128 .f32) (harg10 : arg10.IsWhole)
    (x0 : Vec F S1x2x256x128 .bf16) (x1 : Vec F S1x2x8192x128 .bf16) (x2 : Vec F S1x2x8192x128 .bf16) (E : Set ℕ) (K : PUnit → sProp (Res F)) :
    iprop(owns (c : Thread nD τ) arg3 fullShare x0 ∗ owns (c : Thread nD τ) arg4 fullShare x1 ∗ owns (c : Thread nD τ) arg5 fullShare x2
        ∗ Loose c arg6 arg7 arg8 arg9 arg10
        ∗ (iprop(owns (c : Thread nD τ) arg3 fullShare x0 ∗ owns (c : Thread nD τ) arg4 fullShare x1 ∗ owns (c : Thread nD τ) arg5 fullShare x2
            ∗ Loose c arg6 arg7 arg8 arg9 arg10) -∗ K ⟨⟩))
      ⊢ wp frame (wpE (defs₀ (F := F)) Variants.none c none) E
          (cc0_moba_prompt i arg3 harg3 arg4 harg4 arg5 harg5 arg6 harg6 arg7 harg7 arg8 harg8 arg9 harg9 arg10 harg10) K := by
  simp only [cc0_moba_prompt_eq_skeleton]; unfold cc0_moba_prompt_skel
  simp only [k0_part7_eq_skeleton, k0_part8_eq_skeleton, k0_part9_eq_skeleton, k0_part10_eq_skeleton, k0_part11_eq_skeleton, k0_part12_eq_skeleton]
  unfold Loose owns
  iintro ⟨⟨%f0, %hf0, H0⟩, ⟨%f1, %hf1, H1⟩, ⟨%f2, %hf2, H2⟩, ⟨⟨%d3, %f3, -, H3⟩, ⟨%d4, %f4, -, H4⟩, ⟨%d5, %f5, -, H5⟩, ⟨%d6, %f6, -, H6⟩, ⟨%d7, %f7, -, H7⟩⟩, Hk⟩
  obtain rfl := harg3.eq_unread hf0; obtain rfl := harg4.eq_unread hf1; obtain rfl := harg5.eq_unread hf2
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  iexists _; iexists _; isplitr; swap; · iexact H7
  ipureintro; rfl

/-! ## Every point -/

variable (m : (ℓ : Loc nD τ sig) → Buf (Elt F) ℓ) (ρ : Dev nD → PrngReg)

/-- The output's window is the one nothing is said of. -/
def forgets : Fin 4 → Bool := fun w => w.val == 3

/-- What the pipeline is proved with: the inputs' blocks stay, the output's is unnamed, the scratch is at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem kept0 (c : Dev nD) (t : Fin cfg0.N) : (dats m 0 c).after 0 t = iblk m c 0 t := by dsimp only [dats]
theorem kept1 (c : Dev nD) (t : Fin cfg0.N) : (dats m 0 c).after 1 t = iblk m c 1 t := by dsimp only [dats]
theorem kept2 (c : Dev nD) (t : Fin cfg0.N) : (dats m 0 c).after 2 t = iblk m c 2 t := by dsimp only [dats]

theorem found0 (c : Dev nD) (t : Fin cfg0.N) (d) : (dats m 0 c).before 0 t d = iblk m c 0 t :=
  before0_0_of m (dats m 0 c) (A_eq m c 0) (kept0 m c) t d
theorem found1 (c : Dev nD) (t : Fin cfg0.N) (d) : (dats m 0 c).before 1 t d = iblk m c 1 t :=
  before0_1_of m (dats m 0 c) (A_eq m c 1) (kept1 m c) t d
theorem found2 (c : Dev nD) (t : Fin cfg0.N) (d) : (dats m 0 c).before 2 t d = iblk m c 2 t :=
  before0_2_of m (dats m 0 c) (A_eq m c 2) (kept2 m c) t d

/-- Between points: the four scratch buffers at some contents, and the generator at some state. -/
theorem rest_eq (c : Dev nD) :
    (Pipeline.ΦA spec0 c : sProp (Res F))
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d))
        ∗ (∃ r, prngReg c r)) := by
  unfold Pipeline.ΦA; rw [scopedRest0_eq]; simp only [owns_whole]; try rfl

/-- What the body is called with at a point. -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- What it gives back. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

set_option maxHeartbeats 4000000 in
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2]
  rw [show (dats m 0 c).owesAt () t.succ = (dats m 0 c).owesAt () t.castSucc from rfl, kept0, kept1, kept2,
    show (dats m 0 c).Φ t.castSucc = Pipeline.ΦA spec0 c from rfl, show (dats m 0 c).Φ t.succ = Pipeline.ΦA spec0 c from rfl, rest_eq]
  iintro ⟨⟨⟨S0, S1, S2, S3⟩, Hg⟩, Ho, ⟨%d0, H0⟩, ⟨%d1, H1⟩, ⟨%d2, H2⟩, H3⟩
  iapply (body c (grid0.coords t) _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  unfold Loose
  isplitl [H3 S0 S1 S2 S3]
  · isplitl [H3]; · iexact H3
    isplitl [S0]; · iexact S0
    isplitl [S1]; · iexact S1
    isplitl [S2]; · iexact S2
    iexact S3
  iintro ⟨H0, H1, H2, H3, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  iexact H3

/-- The body the table names at a point's slots. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ forgets := fun t => by
  rw [bigSep_W0, bigSep_W0, row_eq]
  exact triple_restated (body_sound m c t) rfl .rfl fun _ => .rfl

/-! ## The run -/

set_option backward.isDefEq.respectTransparency.types false in
/-- Every run ends, with every buffer but the output as the call found it and every counter at zero. -/
theorem ends : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_track_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := A_eq m)
    (hin := fun _ => .rfl) (hout := fun _ => .rfl)

/-- Every run ends with the arguments untouched and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (ends m ρ)

end Cert.AttnBits
-- ==== Proof.Attn.Walk.lean ====
/-
  The attention kernel's walk over the groups of keys, as a function: what the running maximum and the accumulator
  hold after each group, and what the block of the output then is. The offsets the kernel computes are put in
  closed form here as well.
-/
module

public import proofs.«01_k».proof.Proof.Gen.KernelIdeal.Skeleton
public import Idealize.ShloMosaic.Lib.VecWindow

@[expose] public section

noncomputable section

namespace Cert.Attn

open Cert.KernelIdeal Cert.KernelIdeal.Gen
open Idealize.ShloMosaic Idealize.ShloMosaic.TcCoe

/-! ## The offsets -/

/-- A grid point of which only the query block matters. -/
abbrev atBlock (b : Fin 32) : grid0.Coords := fun | 0 => (0 : Fin 4) | 1 => (0 : Fin 3) | 2 => b

/-- The walk of query block `i` makes this many trips before the last group. -/
theorem trips_eq (i : grid0.Coords) : (k0_t1_loop i).trips = ((i 2).val - 1) / 8 :=
  (by decide +kernel : ∀ b : Fin 32, (k0_t1_loop (atBlock b)).trips = (b.val - 1) / 8) (i 2)

section Offsets
variable (i : grid0.Coords) (k : Fin (k0_t1_loop i).trips)

theorem trip_lt : k.val < 3 := Nat.lt_of_lt_of_le k.isLt (k0_t1_abs i).2.1

theorem off3 : k0_off3 i k = ![k.val % 2, 0, 0, 0] := by
  unfold k0_off3; have h := trip_lt i k; revert h; generalize k.val = n; intro h; interval_cases n <;> rfl
theorem off4 : k0_off4 i k = ![k.val % 2, 0, 0, 0] := by
  unfold k0_off4; have h := trip_lt i k; revert h; generalize k.val = n; intro h; interval_cases n <;> rfl
theorem off5 : k0_off5 i k = ![0, 0, 2048 * k.val, 0] := by
  unfold k0_off5; have h := trip_lt i k; revert h; generalize k.val = n; intro h; interval_cases n <;> rfl
theorem off6 : k0_off6 i k = ![k.val % 2, 1, 0, 0] := by
  unfold k0_off6; have h := trip_lt i k; revert h; generalize k.val = n; intro h; interval_cases n <;> rfl
theorem off7 : k0_off7 i k = ![k.val % 2, 1, 0, 0] := by
  unfold k0_off7; have h := trip_lt i k; revert h; generalize k.val = n; intro h; interval_cases n <;> rfl
theorem off8 : k0_off8 i k = ![0, 1, 2048 * k.val, 0] := by
  unfold k0_off8; have h := trip_lt i k; revert h; generalize k.val = n; intro h; interval_cases n <;> rfl
theorem off9 : k0_off9 i k = ![0, 0, 2048 * (k.val + 1), 0] := by
  unfold k0_off9; have h := trip_lt i k; revert h; generalize k.val = n; intro h; interval_cases n <;> rfl
theorem off10 : k0_off10 i k = ![(k.val + 1) % 2, 0, 0, 0] := by
  unfold k0_off10; have h := trip_lt i k; revert h; generalize k.val = n; intro h; interval_cases n <;> rfl
theorem off11 : k0_off11 i k = ![(k.val + 1) % 2, 0, 0, 0] := by
  unfold k0_off11; have h := trip_lt i k; revert h; generalize k.val = n; intro h; interval_cases n <;> rfl
theorem off12 : k0_off12 i k = ![0, 1, 2048 * (k.val + 1), 0] := by
  unfold k0_off12; have h := trip_lt i k; revert h; generalize k.val = n; intro h; interval_cases n <;> rfl
theorem off13 : k0_off13 i k = ![(k.val + 1) % 2, 1, 0, 0] := by
  unfold k0_off13; have h := trip_lt i k; revert h; generalize k.val = n; intro h; interval_cases n <;> rfl
theorem off14 : k0_off14 i k = ![(k.val + 1) % 2, 1, 0, 0] := by
  unfold k0_off14; have h := trip_lt i k; revert h; generalize k.val = n; intro h; interval_cases n <;> rfl

theorem off1 : k0_off1 i = ![0, 0, 256 * (i 2).val, 0] :=
  (by decide +kernel : ∀ b : Fin 32, k0_off1 (atBlock b) = ![0, 0, 256 * b.val, 0]) (i 2)
theorem off2 : k0_off2 i = ![0, 1, 256 * (i 2).val, 0] :=
  (by decide +kernel : ∀ b : Fin 32, k0_off2 (atBlock b) = ![0, 1, 256 * b.val, 0]) (i 2)
theorem off27 : k0_off27 i = ![(((i 2).val - 1) / 8) % 2, 0, 0, 0] :=
  (by decide +kernel : ∀ b : Fin 32, k0_off27 (atBlock b) = ![((b.val - 1) / 8) % 2, 0, 0, 0]) (i 2)
theorem off28 : k0_off28 i = ![(((i 2).val - 1) / 8) % 2, 0, 0, 0] :=
  (by decide +kernel : ∀ b : Fin 32, k0_off28 (atBlock b) = ![((b.val - 1) / 8) % 2, 0, 0, 0]) (i 2)
theorem off29 : k0_off29 i = ![0, 0, 2048 * (((i 2).val - 1) / 8), 0] :=
  (by decide +kernel : ∀ b : Fin 32, k0_off29 (atBlock b) = ![0, 0, 2048 * ((b.val - 1) / 8), 0]) (i 2)
theorem off30 : k0_off30 i = ![(((i 2).val - 1) / 8) % 2, 1, 0, 0] :=
  (by decide +kernel : ∀ b : Fin 32, k0_off30 (atBlock b) = ![((b.val - 1) / 8) % 2, 1, 0, 0]) (i 2)
theorem off31 : k0_off31 i = ![(((i 2).val - 1) / 8) % 2, 1, 0, 0] :=
  (by decide +kernel : ∀ b : Fin 32, k0_off31 (atBlock b) = ![((b.val - 1) / 8) % 2, 1, 0, 0]) (i 2)
theorem off32 : k0_off32 i = ![0, 1, 2048 * (((i 2).val - 1) / 8), 0] :=
  (by decide +kernel : ∀ b : Fin 32, k0_off32 (atBlock b) = ![0, 1, 2048 * ((b.val - 1) / 8), 0]) (i 2)
end Offsets

/-! ## The same steps under two names

The kernel's text has each head's steps, and the last group's, written out; they are the steps of the first head in a trip. -/

section Names
variable {F : FTy → Type} [FloatOps F] [Named F]
variable (q : FVec F S256x128 .bf16) (m55 : IVec S256x256 1) (m60 : IVec S256x128 1) (x : Vec F S1x1x256x128 .bf16) (y : Vec F S1x1x2048x128 .bf16)
  (u v : Vec F S1x1x256x128 .bf16) (t : Vec F S1x256x1 .f32) (g : Vec F S1x1x256x1 .f32) (s : Vec F S1x1x256x2048 .f32) (a : Vec F S1x256x128 .f32)

theorem scores_first : k0_pay31 (k0_pay30 x y) = k0_pay13 (k0_pay28 x) y := rfl
theorem tops_first : k0_pay32 (k0_pay30 x y) = k0_pay14 (k0_pay28 x) y := rfl
theorem scores_second : k0_pay34 q y = k0_pay13 q y := rfl
theorem tops_second : k0_pay35 q y = k0_pay14 q y := rfl
theorem scores_next : k0_pay47 q y = k0_pay13 q y := rfl
theorem tops_next : k0_pay48 q y = k0_pay14 q y := rfl
theorem own_top : k0_pay44 (k0_pay43 q m55 m60 u) = k0_pay40 q m55 m60 u := rfl
theorem own_acc : k0_pay45 (k0_pay42 q m55 m60 u) (k0_pay43 q m55 m60 u) v = k0_pay41 q m55 m60 u v := rfl
theorem top_second : k0_pay11 (k0_pay8 t g) = k0_pay6 (k0_pay3 t g) := rfl
theorem acc_second : k0_pay10 (k0_pay9 t g s a y) = k0_pay5 (k0_pay4 t g s a y) := rfl
theorem acc_last : k0_pay54 t g s a y = k0_pay5 (k0_pay4 t g s a y) := rfl
theorem acc_last_second : k0_pay58 (k0_pay56 t) g s a y = k0_pay5 (k0_pay4 t g s a y) := rfl
theorem query_second : k0_pay29 x = k0_pay28 x := rfl
end Names

/-! ## The walk

Of one point: the queries `x0` of two heads, all the keys `x1` and all the values `x2` of both. -/

variable {F : FTy → Type} [FloatOps F] [Named F]

/-- One head's queries. -/
def qry (x0 : Vec F S1x2x256x128 .bf16) (hh : Fin 2) : FVec F S256x128 .bf16 :=
  k0_pay28 (VecWindow.window (s := S1x2x256x128) x0 ![0, hh.val, 0, 0] S1x1x256x128.size
    (by intro a; have := hh.isLt; fin_cases a <;> simp [Shape.size] <;> omega))

/-- One head's group `g` of 2048 keys, or values. -/
def grp (x : Vec F S1x2x8192x128 .bf16) (hh : Fin 2) (g : ℕ) : Vec F S1x1x2048x128 .bf16 :=
  VecWindow.window (s := S1x2x8192x128) x ![0, hh.val, 2048 * (g % 4), 0] S1x1x2048x128.size
    (by intro a; have := hh.isLt; fin_cases a <;> simp [Shape.size] <;> omega)

/-- One head's block `b` of 256 keys, or values. -/
def own (x : Vec F S1x2x8192x128 .bf16) (hh : Fin 2) (b : Fin 32) : Vec F S1x1x256x128 .bf16 :=
  VecWindow.window (s := S1x2x8192x128) x ![0, hh.val, 256 * b.val, 0] S1x1x256x128.size
    (by intro a; have := hh.isLt; have := b.isLt; fin_cases a <;> simp [Shape.size] <;> omega)

/-- The lane numbers. -/
abbrev lanes : IVec S256x128 32 := iota .tc S256x128 32 [1] iota_S256x128_d1_w32

variable (x0 : Vec F S1x2x256x128 .bf16) (x1 x2 : Vec F S1x2x8192x128 .bf16) (b : Fin 32) (hh : Fin 2)

/-- The running maximum, before group `k` is weighed. -/
def top : ℕ → Vec F S1x256x1 .f32
  | 0 => k0_pay40 (qry x0 hh) k0_pay36 (k0_pay37 lanes) (own x1 hh b)
  | k + 1 => k0_pay6 (k0_pay3 (top k) (k0_pay14 (qry x0 hh) (grp x1 hh k)))

/-- The accumulator, before group `k` is weighed. -/
def acc : ℕ → Vec F S1x256x128 .f32
  | 0 => k0_pay41 (qry x0 hh) k0_pay36 (k0_pay37 lanes) (own x1 hh b) (own x2 hh b)
  | k + 1 => k0_pay5 (k0_pay4 (top x0 x1 b hh k) (k0_pay14 (qry x0 hh) (grp x1 hh k)) (k0_pay13 (qry x0 hh) (grp x1 hh k)) (acc k) (grp x2 hh k))

/-- The output's block: the accumulators after the last group, divided. -/
def outBlock : Vec F S1x256x128 .bf16 :=
  k0_pay1 lanes (k0_pay60 (acc x0 x1 x2 b 0 ((b.val - 1) / 8 + 1))) (acc x0 x1 x2 b 0 ((b.val - 1) / 8 + 1))
    (acc x0 x1 x2 b 1 ((b.val - 1) / 8 + 1)) (acc x0 x1 x2 b 1 ((b.val - 1) / 8 + 1))

/-- What the scratch buffers hold before group `k` is weighed: scores and their maxima of group `k` in the half the walk
    is about to read, and the running maximum and accumulator. -/
structure Here (k : ℕ) (u7 : Vec F S2x2x256x2048 .f32) (u8 : Vec F S2x2x256x1 .f32) (u9 : Vec F S2x256x1 .f32) (u10 : Vec F S2x256x128 .f32) : Prop where
  scores : ∀ (hh : Fin 2) inb, VecWindow.window (s := S2x2x256x2048) u7 ![k % 2, hh.val, 0, 0] S1x1x256x2048.size inb = k0_pay13 (qry x0 hh) (grp x1 hh k)
  tops : ∀ (hh : Fin 2) inb, VecWindow.window (s := S2x2x256x1) u8 ![k % 2, hh.val, 0, 0] S1x1x256x1.size inb = k0_pay14 (qry x0 hh) (grp x1 hh k)
  top : ∀ (hh : Fin 2) inb, VecWindow.window (s := S2x256x1) u9 ![hh.val, 0, 0] S1x256x1.size inb = top x0 x1 b hh k
  acc : ∀ (hh : Fin 2) inb, VecWindow.window (s := S2x256x128) u10 ![hh.val, 0, 0] S1x256x128.size inb = acc x0 x1 x2 b hh k

end Cert.Attn
-- ==== Proof.Attn.Softmax.lean ====
/- A softmax taken group by group over the extended reals: a running maximum, the sums weighted against it, and what the
   quotient of two such sums is. Nothing here knows of a program. -/
module

public import Idealize.ShloMosaic.PureOps.Ideal

@[expose] public section

noncomputable section

namespace Cert.Attn

open Idealize.ShloMosaic

/-- A score's weight against a maximum, to base two. -/
def wt (s m : EReal) : EReal := Ideal.exp2 (s - m)

theorem wt_bot (m : EReal) : wt ⊥ m = 0 := by simp [wt]

/-- Under its maximum a weight is a real number, not negative. -/
theorem wt_real {s m : EReal} (h : s ≤ m) : ∃ r : ℝ, 0 ≤ r ∧ wt s m = r := by
  induction s using EReal.rec with
  | bot => exact ⟨0, le_rfl, by simp [wt]⟩
  | top => exact ⟨0, le_rfl, by rw [top_le_iff.mp h]; simp [wt]⟩
  | coe s =>
    induction m using EReal.rec with
    | bot => simp at h
    | top => exact ⟨0, le_rfl, by simp [wt]⟩
    | coe m => exact ⟨Real.rpow 2 (s - m), Real.rpow_nonneg (by norm_num) _, by rw [wt, ← EReal.coe_sub]; rfl⟩

/-- Weights rescale from one maximum to a later one. -/
theorem wt_mul {s m m' : EReal} (h : s ≤ m) (h' : m ≤ m') : wt m m' * wt s m = wt s m' := by
  induction s using EReal.rec with
  | bot => simp [wt]
  | top => obtain rfl := top_le_iff.mp h; obtain rfl := top_le_iff.mp h'; simp [wt]
  | coe s =>
    induction m using EReal.rec with
    | bot => simp at h
    | top => obtain rfl := top_le_iff.mp h'; simp [wt]
    | coe m =>
      induction m' using EReal.rec with
      | bot => simp at h'
      | top => simp [wt]
      | coe m' =>
        simp only [wt, ← EReal.coe_sub, Ideal.exp2_coe, ← EReal.coe_mul]
        congr 1
        show (2 : ℝ) ^ (m - m') * 2 ^ (s - m) = 2 ^ (s - m')
        rw [← Real.rpow_add (by norm_num)]
        congr 1; ring

/-- A real factor that is not negative goes into a sum. -/
theorem real_mul_sum {ι : Type} (S : Finset ι) {a : ℝ} (ha : 0 ≤ a) (f : ι → EReal) : (a : EReal) * ∑ x ∈ S, f x = ∑ x ∈ S, (a : EReal) * f x := by
  classical
  induction S using Finset.induction_on with
  | empty => simp
  | insert x S hx ih =>
    rw [Finset.sum_insert hx, Finset.sum_insert hx, EReal.left_distrib_of_nonneg_of_ne_top (by exact_mod_cast ha) (EReal.coe_ne_top a), ih]

/-- The greatest of finitely many scores. -/
structure IsMax {n : ℕ} (s : Fin n → EReal) (m : EReal) : Prop where
  le : ∀ l, s l ≤ m
  mem : ∃ l, m = s l

theorem IsMax.unique {n : ℕ} {s : Fin n → EReal} {m m' : EReal} (h : IsMax s m) (h' : IsMax s m') : m = m' := by
  obtain ⟨l, hl⟩ := h.mem
  obtain ⟨l', hl'⟩ := h'.mem
  exact le_antisymm (hl ▸ h'.le l) (hl' ▸ h.le l')

theorem isMax_fold {n : ℕ} [NeZero n] (f : Fin n → EReal) : IsMax f ((Finset.univ : Finset (Fin n)).fold max ⊥ f) := by
  have le : ∀ l, f l ≤ (Finset.univ : Finset (Fin n)).fold max ⊥ f := fun l =>
    (Finset.le_fold_max _).mpr (Or.inr ⟨l, Finset.mem_univ l, le_rfl⟩)
  refine ⟨le, ?_⟩
  rcases (Finset.le_fold_max _).mp (le_refl ((Finset.univ : Finset (Fin n)).fold max ⊥ f)) with h | ⟨x, -, hx⟩
  · exact ⟨0, le_antisymm (h.trans bot_le) (le 0)⟩
  · exact ⟨x, le_antisymm hx (le x)⟩

/-- Scores of a window, at their places among all the keys; the others are out. -/
def win {n : ℕ} (N off : ℕ) (s : Fin n → EReal) : Fin N → EReal :=
  fun l => if h : off ≤ l.val ∧ l.val < off + n then s ⟨l.val - off, by omega⟩ else ⊥

theorem win_in {n : ℕ} (N off : ℕ) (s : Fin n → EReal) (x : Fin n) (l : Fin N) (h : l.val = off + x.val) : win N off s l = s x := by
  have hx := x.isLt
  rw [win, dif_pos (by omega)]
  congr 1; apply Fin.ext; show l.val - off = x.val; omega

theorem win_out {n : ℕ} (N off : ℕ) (s : Fin n → EReal) (l : Fin N) (h : ¬(off ≤ l.val ∧ l.val < off + n)) : win N off s l = ⊥ := by
  rw [win, dif_neg h]

theorem isMax_win {n N : ℕ} (off : ℕ) (hN : off + n ≤ N) (s : Fin n → EReal) (m : EReal) (h : IsMax s m) : IsMax (win N off s) m := by
  refine ⟨fun l => ?_, ?_⟩
  · by_cases hl : off ≤ l.val ∧ l.val < off + n
    · rw [win, dif_pos hl]; exact h.le _
    · rw [win_out _ _ _ _ hl]; exact bot_le
  · obtain ⟨x, hx⟩ := h.mem
    exact ⟨⟨off + x.val, by have := x.isLt; omega⟩, by rw [win_in N off s x _ rfl, hx]⟩

/-- A sum of which only a window is not zero. -/
theorem sum_window {n N : ℕ} (off : ℕ) (hN : off + n ≤ N) (f : Fin N → EReal) (hf : ∀ l : Fin N, ¬(off ≤ l.val ∧ l.val < off + n) → f l = 0) :
    ∑ l, f l = ∑ x : Fin n, f ⟨off + x.val, by have := x.isLt; omega⟩ := by
  symm
  refine Fintype.sum_of_injective (fun x : Fin n => (⟨off + x.val, by have := x.isLt; omega⟩ : Fin N)) (fun x y h => ?_) _ _ (fun l hl => hf l fun h => hl ?_) (fun x => rfl)
  · apply Fin.ext; have := congrArg Fin.val h; simp only at this; omega
  · exact ⟨⟨l.val - off, by omega⟩, Fin.ext (by show off + (l.val - off) = l.val; omega)⟩

theorem sum_win {n N : ℕ} (off : ℕ) (hN : off + n ≤ N) (s : Fin n → EReal) (m : EReal) (v : Fin N → EReal) :
    ∑ l, wt (win N off s l) m * v l = ∑ x : Fin n, wt (s x) m * v ⟨off + x.val, by have := x.isLt; omega⟩ := by
  rw [sum_window off hN _ fun l h => by rw [win_out _ _ _ _ h, wt_bot, zero_mul]]
  exact Finset.sum_congr rfl fun x _ => by rw [win_in N off s x _ rfl]

/-- A running maximum and weighted sums hold the scores `σ` of all the keys, the keys not yet met being out. -/
structure Held {N D : ℕ} (σ : Fin N → EReal) (v : Fin N → Fin D → EReal) (m : EReal) (a : Fin D → EReal) : Prop where
  max : IsMax σ m
  sum : ∀ d, a d = ∑ l, wt (σ l) m * v l d

/-- The first window. -/
theorem Held.first {n N D : ℕ} (off : ℕ) (hN : off + n ≤ N) (s : Fin n → EReal) (v : Fin N → Fin D → EReal) (m : EReal) (a : Fin D → EReal)
    (hm : IsMax s m) (ha : ∀ d, a d = ∑ x : Fin n, wt (s x) m * v ⟨off + x.val, by have := x.isLt; omega⟩ d) : Held (win N off s) v m a :=
  ⟨isMax_win off hN s m hm, fun d => by rw [ha d, sum_win off hN s m fun l => v l d]⟩

/-- One more window. -/
theorem Held.step {n N D : ℕ} {σ : Fin N → EReal} {v : Fin N → Fin D → EReal} {m : EReal} {a : Fin D → EReal} (h : Held σ v m a) (off : ℕ)
    (hN : off + n ≤ N) (s : Fin n → EReal) (mg m' : EReal) (a' : Fin D → EReal) (hg : IsMax s mg) (hm' : m' = Max.max m mg)
    (dj : ∀ l, σ l = ⊥ ∨ win N off s l = ⊥)
    (ha : ∀ d, a' d = wt m m' * a d + ∑ x : Fin n, wt (s x) m' * v ⟨off + x.val, by have := x.isLt; omega⟩ d) :
    Held (fun l => Max.max (σ l) (win N off s l)) v m' a' := by
  subst hm'
  have hw := isMax_win off hN s mg hg
  refine ⟨⟨fun l => max_le_max (h.max.le l) (hw.le l), ?_⟩, fun d => ?_⟩
  · rcases le_total mg m with hle | hle
    · obtain ⟨l, hl⟩ := h.max.mem
      refine ⟨l, ?_⟩
      rw [max_eq_left hle, ← hl, max_eq_left ((hw.le l).trans hle)]
    · obtain ⟨l, hl⟩ := hw.mem
      refine ⟨l, ?_⟩
      rw [max_eq_right hle, ← hl, max_eq_right ((h.max.le l).trans hle)]
  · obtain ⟨r, hr, e⟩ := wt_real (le_max_left m mg)
    rw [ha d, h.sum d, ← sum_win off hN s _ fun l => v l d, e, real_mul_sum _ hr, ← Finset.sum_add_distrib]
    refine Finset.sum_congr rfl fun l _ => ?_
    rw [← mul_assoc, ← e, wt_mul (h.max.le l) (le_max_left m mg)]
    rcases dj l with hb | hb
    · rw [hb, wt_bot, zero_mul, zero_add, max_eq_right bot_le]
    · rw [hb, wt_bot, zero_mul, add_zero, max_eq_left bot_le]

/-- A shift by a real number and a positive scale: what the scores in the kernel are to the reference's. -/
def shift (c β : ℝ) (x : EReal) : EReal := c * (x + β)

theorem shift_bot {c : ℝ} (hc : 0 < c) (β : ℝ) : shift c β ⊥ = ⊥ := by
  rw [shift, EReal.bot_add, EReal.coe_mul_bot_of_pos hc]
theorem shift_top {c : ℝ} (hc : 0 < c) (β : ℝ) : shift c β ⊤ = ⊤ := by
  rw [shift, EReal.top_add_coe, EReal.coe_mul_top_of_pos hc]
theorem shift_coe (c β x : ℝ) : shift c β x = ((c * (x + β) : ℝ) : EReal) := by
  rw [shift, ← EReal.coe_add, ← EReal.coe_mul]

theorem shift_mono {c : ℝ} (hc : 0 < c) (β : ℝ) {x y : EReal} (h : x ≤ y) : shift c β x ≤ shift c β y := by
  induction x using EReal.rec with
  | bot => rw [shift_bot hc]; exact bot_le
  | top => rw [top_le_iff.mp h]
  | coe x =>
    induction y using EReal.rec with
    | bot => simp at h
    | top => rw [shift_top hc]; exact le_top
    | coe y =>
      rw [shift_coe, shift_coe, EReal.coe_le_coe_iff]
      have := EReal.coe_le_coe_iff.mp h
      nlinarith

/-- The weight of shifted scores is the exponential of the difference. -/
theorem wt_shift {c : ℝ} (hc : 0 < c) (hl : c * Real.log 2 = 1) (β : ℝ) {r M : EReal} (h : r ≤ M) :
    wt (shift c β r) (shift c β M) = Ideal.exp (r - M) := by
  induction r using EReal.rec with
  | bot => rw [shift_bot hc, wt_bot]; simp
  | top => rw [top_le_iff.mp h, shift_top hc]; simp [wt]
  | coe r =>
    induction M using EReal.rec with
    | bot => simp at h
    | top => rw [shift_top hc, shift_coe]; simp [wt]
    | coe M =>
      rw [shift_coe, shift_coe, wt, ← EReal.coe_sub, ← EReal.coe_sub, Ideal.exp2_coe, Ideal.exp_coe]
      congr 1
      show (2 : ℝ) ^ (c * (r + β) - c * (M + β)) = Real.exp (r - M)
      rw [Real.rpow_def_of_pos (by norm_num)]
      congr 1
      linear_combination (r - M) * hl

theorem exp_nonneg (x : EReal) : 0 ≤ Ideal.exp x := by
  induction x using EReal.rec with
  | bot => simp
  | top => simp
  | coe x => rw [Ideal.exp_coe]; exact_mod_cast (Real.exp_pos x).le

/-- The exponentials under the greatest score: all zero, or real with a positive sum. -/
theorem exp_cases {N : ℕ} {r : Fin N → EReal} {M : EReal} (h : IsMax r M) :
    (∀ l, Ideal.exp (r l - M) = 0) ∨ ∃ D : ℝ, 0 < D ∧ ∑ l, Ideal.exp (r l - M) = D := by
  induction M using EReal.rec with
  | bot => left; intro l; rw [le_bot_iff.mp (h.le l)]; simp
  | top => left; intro l; simp
  | coe M =>
    right
    have hr : ∀ l, ∃ x : ℝ, 0 ≤ x ∧ Ideal.exp (r l - M) = x := fun l => by
      have hl := h.le l
      generalize r l = y at hl
      induction y using EReal.rec with
      | bot => exact ⟨0, le_rfl, by simp⟩
      | top => simp at hl
      | coe y => exact ⟨Real.exp (y - M), (Real.exp_pos _).le, by rw [← EReal.coe_sub, Ideal.exp_coe]⟩
    choose x hx0 hx using hr
    refine ⟨∑ l, x l, ?_, ?_⟩
    · obtain ⟨l, hl⟩ := h.mem
      refine Finset.sum_pos' (fun l _ => hx0 l) ⟨l, Finset.mem_univ l, ?_⟩
      have e := hx l
      rw [← hl, ← EReal.coe_sub, Ideal.exp_coe, sub_self, Real.exp_zero] at e
      have e1 : (1 : ℝ) = x l := by exact_mod_cast e
      rw [← e1]; norm_num
    · simp only [hx]
      exact (map_sum (⟨⟨((↑) : ℝ → EReal), EReal.coe_zero⟩, EReal.coe_add⟩ : ℝ →+ EReal) x Finset.univ).symm

/-- The quotient: over shifted scores, with lane `e` of the values all one, a lane of the sums over lane `e` is the softmax's
    average. -/
theorem Held.out {N D : ℕ} {c : ℝ} (hc : 0 < c) (hl : c * Real.log 2 = 1) (β : ℝ) {r : Fin N → EReal} {M : EReal} (hM : IsMax r M)
    {σ : Fin N → EReal} {v : Fin N → Fin D → EReal} {m : EReal} {a : Fin D → EReal} (h : Held σ v m a) (hσ : ∀ l, σ l = shift c β (r l))
    (e : Fin D) (hv : ∀ l, v l e = 1) (d : Fin D) :
    a d * Ideal.div 1 (a e) = ∑ l, Ideal.exp (r l - M) * Ideal.div 1 (∑ l, Ideal.exp (r l - M)) * v l d := by
  have hm : m = shift c β M := h.max.unique ⟨fun l => by rw [hσ]; exact shift_mono hc β (hM.le l), by
    obtain ⟨l, hl⟩ := hM.mem; exact ⟨l, by rw [hσ, ← hl]⟩⟩
  have hw : ∀ l, wt (σ l) m = Ideal.exp (r l - M) := fun l => by rw [hσ, hm, wt_shift hc hl β (hM.le l)]
  have ha : ∀ d, a d = ∑ l, Ideal.exp (r l - M) * v l d := fun d => by rw [h.sum d]; exact Finset.sum_congr rfl fun l _ => by rw [hw]
  have he : a e = ∑ l, Ideal.exp (r l - M) := by rw [ha e]; exact Finset.sum_congr rfl fun l _ => by rw [hv, mul_one]
  rw [he, ha d]
  rcases exp_cases hM with h0 | ⟨S, hS, e⟩
  · simp only [h0, zero_mul, Finset.sum_const_zero]
  · have hd : Ideal.div 1 (S : EReal) = ((S⁻¹ : ℝ) : EReal) := by
      rw [Ideal.div, if_neg (by exact_mod_cast hS.ne'), one_mul, EReal.coe_inv]
    rw [e, hd, mul_comm, real_mul_sum _ (inv_nonneg.mpr hS.le)]
    exact Finset.sum_congr rfl fun l _ => by rw [← mul_assoc, mul_comm (S⁻¹ : ℝ).toEReal]

end Cert.Attn

end
-- ==== Proof.Attn.Scores.lean ====
/-
  The scores of one query: the reference's, and what the kernel's 128 lanes add up to. Reals and infinities only, no program.
-/
module

public import proofs.«01_k».proof.Proof.Attn.Softmax

@[expose] public section

noncomputable section

namespace Cert.Attn

open Idealize.ShloMosaic

/-- One over the logarithm of two: the kernel's scores are in powers of two. -/
def octave : ℝ := 1 / Real.log 2

theorem octave_pos : 0 < octave := by unfold octave; have := Real.log_pos (by norm_num : (1 : ℝ) < 2); positivity
theorem octave_log : octave * Real.log 2 = 1 := by
  unfold octave; have := Real.log_pos (by norm_num : (1 : ℝ) < 2); field_simp

/-- The score of query `t` and key `l`: the scaled product less the distance times the slope. -/
def score (q k : Fin 64 → EReal) (s : ℝ) (t l : ℕ) : EReal :=
  (∑ x, q x * k x) * ((1 / 8 : ℝ) : EReal) - ((s * ((t : ℝ) - (l : ℝ)) : ℝ) : EReal)

/-- A query sees the keys of its own block up to itself, and those of the earlier blocks it picked. -/
def Sees (t l : ℕ) (picked : Prop) : Prop := (t / 256 = l / 256 ∧ l ≤ t) ∨ (picked ∧ l / 256 < t / 256)

theorem shift_score (q k : Fin 64 → EReal) (s : ℝ) (t l : ℕ) :
    shift octave (s * t) (score q k s t l) =
      ∑ x, q x * (((1 / 8 : ℝ) : EReal) * (octave : EReal)) * k x + ((s * octave * l : ℝ) : EReal) := by
  have hsum : ∑ x, q x * (((1 / 8 : ℝ) : EReal) * (octave : EReal)) * k x = (octave : EReal) * ((∑ x, q x * k x) * ((1 / 8 : ℝ) : EReal)) := by
    rw [mul_comm (∑ x, q x * k x), ← mul_assoc, mul_comm (octave : EReal), ← EReal.coe_mul,
      real_mul_sum _ (by have := octave_pos; positivity)]
    refine Finset.sum_congr rfl fun x _ => ?_
    rw [mul_comm (q x), mul_assoc]
  rw [hsum, score, shift]
  generalize (∑ x, q x * k x) * ((1 / 8 : ℝ) : EReal) = a
  induction a using EReal.rec with
  | bot => rw [sub_eq_add_neg, EReal.bot_add, EReal.bot_add, EReal.coe_mul_bot_of_pos octave_pos, EReal.bot_add]
  | top =>
    rw [EReal.top_sub_coe, EReal.top_add_coe, EReal.coe_mul_top_of_pos octave_pos, EReal.top_add_coe]
  | coe a =>
    rw [← EReal.coe_sub, ← EReal.coe_add, ← EReal.coe_mul, ← EReal.coe_mul, ← EReal.coe_add]
    congr 1; ring

/-- The 128 lanes in three runs. -/
theorem sum_lanes (f : Fin 128 → EReal) :
    ∑ x, f x = ∑ x : Fin 64, f ⟨x.val, by omega⟩ + (∑ x : Fin 32, f ⟨64 + x.val, by omega⟩ + ∑ x : Fin 32, f ⟨96 + x.val, by omega⟩) := by
  have h1 := Fin.sum_univ_add (a := 64) (b := 64) f
  have h2 := Fin.sum_univ_add (a := 32) (b := 32) fun x => f (Fin.natAdd 64 x)
  rw [h1, h2]
  rfl

/-- The lanes of a key and a query, as the host lays them out: the head's 64, the 32 blocks, then one lane for the slope. -/
structure Lanes (q k : Fin 64 → EReal) (bias : Fin 32 → EReal) (bl : Fin 32) (s : ℝ) (l : ℕ) (qa ka : Fin 128 → EReal) : Prop where
  q : ∀ x : Fin 64, qa ⟨x.val, by omega⟩ = q x * (((1 / 8 : ℝ) : EReal) * (octave : EReal))
  k : ∀ x : Fin 64, ka ⟨x.val, by omega⟩ = k x
  bias : ∀ x : Fin 32, qa ⟨64 + x.val, by omega⟩ = bias x
  block : ∀ x : Fin 32, ka ⟨64 + x.val, by omega⟩ = if x = bl then 1 else 0
  one : qa ⟨96, by omega⟩ = 1
  slope : ka ⟨96, by omega⟩ = ((s * octave * l : ℝ) : EReal)
  zero : ∀ x : Fin 128, 97 ≤ x.val → ka x = 0

section
variable {q k : Fin 64 → EReal} {bias : Fin 32 → EReal} {bl : Fin 32} {s : ℝ} {l : ℕ} {qa ka : Fin 128 → EReal}
  (h : Lanes q k bias bl s l qa ka)
include h

theorem Lanes.tail : ∑ x : Fin 32, qa ⟨96 + x.val, by omega⟩ * ka ⟨96 + x.val, by omega⟩ = ((s * octave * l : ℝ) : EReal) := by
  rw [Finset.sum_eq_single (0 : Fin 32)]
  · exact (congrArg₂ (· * ·) h.one h.slope).trans (one_mul _)
  · intro x _ hx
    rw [h.zero ⟨96 + x.val, by omega⟩ (by have : x.val ≠ 0 := fun e => hx (Fin.ext e); show 97 ≤ 96 + x.val; omega), mul_zero]
  · intro hx; exact absurd (Finset.mem_univ _) hx

theorem Lanes.head : ∑ x : Fin 64, qa ⟨x.val, by omega⟩ * ka ⟨x.val, by omega⟩ = ∑ x, q x * (((1 / 8 : ℝ) : EReal) * (octave : EReal)) * k x :=
  Finset.sum_congr rfl fun x _ => by rw [h.q, h.k]

/-- Own block: the block lanes of the keys are put at zero. -/
theorem Lanes.own (t : ℕ) : ∑ x : Fin 128, (if 64 ≤ x.val ∧ x.val < 96 then 0 else qa x * ka x) = shift octave (s * t) (score q k s t l) := by
  rw [sum_lanes, shift_score, ← h.head, ← h.tail]
  have hh : ∀ x : Fin 64, (if 64 ≤ x.val ∧ x.val < 96 then (0 : EReal)
      else qa ⟨x.val, by omega⟩ * ka ⟨x.val, by omega⟩) = qa ⟨x.val, by omega⟩ * ka ⟨x.val, by omega⟩ := fun x => if_neg (by have := x.isLt; omega)
  have hz : ∀ x : Fin 32, (if 64 ≤ 64 + x.val ∧ 64 + x.val < 96 then (0 : EReal)
        else qa ⟨64 + x.val, by omega⟩ * ka ⟨64 + x.val, by omega⟩) = 0 := fun x => if_pos (by have := x.isLt; omega)
  have hr : ∀ x : Fin 32, (if 64 ≤ 96 + x.val ∧ 96 + x.val < 96 then (0 : EReal)
        else qa ⟨96 + x.val, by omega⟩ * ka ⟨96 + x.val, by omega⟩) = qa ⟨96 + x.val, by omega⟩ * ka ⟨96 + x.val, by omega⟩ :=
      fun x => if_neg (by omega)
  simp only [hh, hz, hr, Finset.sum_const_zero, zero_add]

/-- A group of keys: the bias of the key's block is added. -/
theorem Lanes.group (t : ℕ) (p : Prop) [Decidable p] (hb : bias bl = if p then 0 else ⊥) :
    ∑ x : Fin 128, qa x * ka x = if p then shift octave (s * t) (score q k s t l) else ⊥ := by
  have hm : ∑ x : Fin 32, qa ⟨64 + x.val, by omega⟩ * ka ⟨64 + x.val, by omega⟩ = bias bl := by
    rw [Finset.sum_eq_single bl]
    · rw [h.bias, h.block, if_pos rfl, mul_one]
    · intro x _ hx; rw [h.block, if_neg hx, mul_zero]
    · intro hx; exact absurd (Finset.mem_univ _) hx
  rw [sum_lanes, h.head, hm, h.tail, hb, shift_score]
  by_cases hp : p
  · rw [if_pos hp, if_pos hp, zero_add]
  · rw [if_neg hp, if_neg hp, EReal.bot_add, EReal.add_bot]
end

end Cert.Attn

end
-- ==== Proof.Attn.Literals.lean ====
/-
  The constants that the attention's kernel and its reference spell, as the numbers they stand for, and the block of 256 that a
  row number is in, as the programs compute it.
-/
module

public import proofs.«01_k».proof.Proof.Attn.Scores
public import Idealize.ShloMosaic.PureOps

@[expose] public section

noncomputable section

namespace Cert.Attn

open Idealize.ShloMosaic

theorem lit_eighth : Ideal.ofBits .f32 1040187392#32 = ((1 / 8 : ℝ) : EReal) := by
  simp [Ideal.ofBits, Ideal.ieee, -EReal.coe_mul]; norm_num
theorem lit_two : Ideal.ofBits .f32 1073741824#32 = ((2 : ℝ) : EReal) := by
  simp [Ideal.ofBits, Ideal.ieee, -EReal.coe_mul]; norm_num
theorem lit_six : Ideal.ofBits .f32 1086324736#32 = ((6 : ℝ) : EReal) := by
  simp [Ideal.ofBits, Ideal.ieee, -EReal.coe_mul]; norm_num
theorem lit_less : Ideal.ofBits .f32 3238002688#32 = ((-8 : ℝ) : EReal) := by
  simp [Ideal.ofBits, Ideal.ieee, -EReal.coe_mul]; norm_num
theorem lit_bot : Ideal.ofBits .f32 4286578688#32 = ⊥ := by
  simp [Ideal.ofBits, Ideal.ieee]
theorem lit_ln : ∃ r : ℝ, Ideal.ofBits .f32 1060205080#32 = (r : EReal) := by
  refine ⟨11629080 / 16777216, ?_⟩
  simp [Ideal.ofBits, Ideal.ieee, -EReal.coe_mul]; norm_num

theorem lit_octave : Ideal.div 1 (Ideal.log (Ideal.ofBits .f32 1073741824#32)) = (octave : EReal) := by
  have h := Real.log_pos (by norm_num : (1 : ℝ) < 2)
  rw [lit_two, Ideal.log_coe, if_neg (by norm_num), Ideal.div_coe h.ne', one_mul, octave]

/-- Head `h`'s slope, as both programs compute it. -/
def slopeOf (h : ℕ) : EReal :=
  Ideal.exp (Ideal.ofBits .f32 1060205080#32 *
    Ideal.div (Ideal.ofBits .f32 3238002688#32 * (1 + FloatOps.sitofp (F := Ideal) .f32 (BitVec.ofNat 32 h))) (Ideal.ofBits .f32 1086324736#32))

theorem slope_real (h : ℕ) : ∃ s : ℝ, slopeOf h = (s : EReal) := by
  obtain ⟨r, hr⟩ := lit_ln
  refine ⟨Real.exp (r * (-8 * (1 + ((BitVec.ofNat 32 h).toInt : ℝ)) * (1 / 6))), ?_⟩
  rw [slopeOf, hr, lit_less, lit_six, Ideal.div_coe (by norm_num)]
  show Ideal.exp ((r : EReal) * (((-8 : ℝ) : EReal) * (1 + (((BitVec.ofNat 32 h).toInt : ℝ) : EReal)) * _)) = _
  rw [← EReal.coe_one, ← EReal.coe_add, ← EReal.coe_mul, ← EReal.coe_mul, ← EReal.coe_mul, Ideal.exp_coe]

theorem word_toInt {n : ℕ} (h : n < 8192) : (BitVec.ofNat 32 n).toInt = n := by
  have hn : (BitVec.ofNat 32 n).toNat = n := by rw [BitVec.toNat_ofNat]; omega
  rw [BitVec.toInt_eq_toNat_of_lt (by omega), hn]

/-- A small number through a 32-bit word and back. -/
theorem real_word (n : ℕ) (h : n < 8192) : FloatOps.sitofp (F := Ideal) .f32 (BitVec.ofNat 32 n) = ((n : ℝ) : EReal) := by
  show ((((BitVec.ofNat 32 n).toInt : ℤ) : ℝ) : EReal) = _
  rw [word_toInt h]; norm_cast

theorem real_word_sub (n k : ℕ) (h : n < 8192) (h' : k < 8192) :
    FloatOps.sitofp (F := Ideal) .f32 (IntOp.subi (BitVec.ofNat 32 n) (BitVec.ofNat 32 k)) = (((n : ℝ) - (k : ℝ) : ℝ) : EReal) := by
  show ((((IntOp.subi (BitVec.ofNat 32 n) (BitVec.ofNat 32 k)).toInt : ℤ) : ℝ) : EReal) = _
  have : (IntOp.subi (BitVec.ofNat 32 n) (BitVec.ofNat 32 k)).toInt = (n : ℤ) - k := by
    show (BitVec.ofNat 32 n - BitVec.ofNat 32 k).toInt = _
    rw [BitVec.toInt_sub, word_toInt h, word_toInt h', Int.bmod_def]; omega
  rw [this]; push_cast; rfl

/-- The quotient by 256 rounded down, as the programs compute it from the quotient rounded to zero. -/
def floorBlock (n : BitVec 32) : BitVec 32 :=
  Scalar.select
    (IntOp.andi
      (IntOp.cmpi CmpIPredicate.ne (if n = 0 then (0 : BitVec 32) else if n.msb = true then -1 else 1)
        (if (256#32 : BitVec 32) = 0 then 0 else if (256#32 : BitVec 32).msb = true then -1 else 1))
      (IntOp.cmpi CmpIPredicate.ne (IntOp.remsi ArithUnit.host n 256#32) 0#32))
    (IntOp.subi (IntOp.divsi ArithUnit.host n 256#32) 1#32)
    (IntOp.divsi ArithUnit.host n 256#32)

theorem floorBlock_eq (n : Fin 8192) : floorBlock (BitVec.ofNat 32 n.val) = BitVec.ofNat 32 (n.val / 256) :=
  (by decide +kernel : ∀ n : Fin 8192, floorBlock (BitVec.ofNat 32 n.val) = BitVec.ofNat 32 (n.val / 256)) n

theorem word_inj {a b : ℕ} (ha : a < 8192) (hb : b < 8192) : BitVec.ofNat 32 a = BitVec.ofNat 32 b ↔ a = b := by
  constructor
  · intro h
    have := congrArg BitVec.toNat h
    rw [BitVec.toNat_ofNat, BitVec.toNat_ofNat] at this; omega
  · intro h; rw [h]

theorem word_slt {a b : ℕ} (ha : a < 8192) (hb : b < 8192) : (BitVec.ofNat 32 a).slt (BitVec.ofNat 32 b) = decide (a < b) := by
  rw [BitVec.slt, word_toInt ha, word_toInt hb]; simp

theorem word_sle {a b : ℕ} (ha : a < 8192) (hb : b < 8192) : (BitVec.ofNat 32 a).sle (BitVec.ofNat 32 b) = decide (a ≤ b) := by
  rw [BitVec.sle, word_toInt ha, word_toInt hb]; simp

end Cert.Attn

end
-- ==== Proof.Attn.Block.lean ====
/-
  The walk at an index, on extended reals: after each group the running maximum and the accumulator hold the scores met so far,
  and the output's block is a quotient of the accumulator's lanes.
-/
module

public import proofs.«01_k».proof.Proof.Attn.Walk
public import proofs.«01_k».proof.Proof.Attn.Literals
public import Idealize.ShloMosaic.Lib.Pipeline.ValueKit

@[expose] public section

set_option maxRecDepth 16384

noncomputable section

namespace Cert.Attn

open Idealize.ShloMosaic Idealize.ShloMosaic.TcCoe
open Cert.KernelIdeal Cert.KernelIdeal.Gen

/-- The named literal at the extended reals. -/
theorem named_bot : Named.named (F := Ideal) (φ := .f32) κ "minus_inf" 4048155338#32 = (⊥ : EReal) := by
  simp [Named.named, κ]

/-- Scores of a query against one block of its own keys. -/
def ownScores (qa : Fin 128 → EReal) (ka : Fin 256 → Fin 128 → EReal) (r : ℕ) (x : Fin 256) : EReal :=
  if x.val ≤ r then ∑ l : Fin 128, (if 64 ≤ l.val ∧ l.val < 96 then 0 else qa l * ka x l) else ⊥

section Pieces
variable (q : FVec Ideal S256x128 .bf16) (y w : Vec Ideal S1x1x2048x128 .bf16)
  (u v : Vec Ideal S1x1x256x128 .bf16) (t : Vec Ideal S1x256x1 .f32) (g : Vec Ideal S1x1x256x1 .f32)
  (s : Vec Ideal S1x1x256x2048 .f32) (a a' : Vec Ideal S1x256x128 .f32) (r : Fin 256)

theorem mask_word (r x : ℕ) (hr : r < 8192) (hx : x < 8192) (p n : EReal) :
    Scalar.select (IntOp.cmpi CmpIPredicate.sge (BitVec.ofNat 32 r) (BitVec.ofNat 32 x)) p n = if x ≤ r then p else n := by
  show (if BitVec.ofBool ((BitVec.ofNat 32 x).sle (BitVec.ofNat 32 r)) = (1 : BitVec 1) then p else n) = _
  rw [word_sle hx hr]
  by_cases h : x ≤ r
  · rw [if_pos h, decide_eq_true h]; rfl
  · rw [if_neg h, decide_eq_false h]; rfl

theorem lane_word (l : Fin 128) (p n : EReal) :
    Scalar.select (IntOp.andi (IntOp.cmpi CmpIPredicate.sge (BitVec.ofNat 32 l.val) 64#32) (IntOp.cmpi CmpIPredicate.slt (BitVec.ofNat 32 l.val) 96#32)) p n
      = if 64 ≤ l.val ∧ l.val < 96 then p else n := by
  have h : ∀ l : Fin 128, (IntOp.andi (IntOp.cmpi CmpIPredicate.sge (BitVec.ofNat 32 l.val) 64#32) (IntOp.cmpi CmpIPredicate.slt (BitVec.ofNat 32 l.val) 96#32)
      = (1 : BitVec 1)) ↔ (64 ≤ l.val ∧ l.val < 96) := by decide +kernel
  by_cases c : 64 ≤ l.val ∧ l.val < 96
  · rw [if_pos c]; exact if_pos ((h l).mpr c)
  · rw [if_neg c]; exact if_neg fun e => c ((h l).mp e)

theorem low_word (l : Fin 128) (p n : EReal) :
    Scalar.select (IntOp.cmpi CmpIPredicate.slt (BitVec.ofNat 32 l.val) 64#32) p n = if l.val < 64 then p else n := by
  have h : ∀ l : Fin 128, (IntOp.cmpi CmpIPredicate.slt (BitVec.ofNat 32 l.val) 64#32 = (1 : BitVec 1)) ↔ l.val < 64 := by decide +kernel
  by_cases c : l.val < 64
  · rw [if_pos c]; exact if_pos ((h l).mpr c)
  · rw [if_neg c]; exact if_neg fun e => c ((h l).mp e)

/-- The masked scores of the own block, as the payload has them, at an index. -/
theorem own_at (x : Fin 256) : k0_pay38 q k0_pay36 (k0_pay37 lanes) u (ix2 r x) =
    ownScores (fun l => q (ix2 r l)) (fun x l => u (ix4 0 0 x l)) r.val x := by
  pointwise [k0_pay38, k0_pay36, k0_pay37]
  rw [named_bot, mask_word _ _ (by omega) (by omega)]
  unfold ownScores
  simp only [lane_word]

theorem own_top_at : k0_pay40 q k0_pay36 (k0_pay37 lanes) u (ix3 0 r 0) =
    (Finset.univ : Finset (Fin 256)).fold max ⊥ (ownScores (fun l => q (ix2 r l)) (fun x l => u (ix4 0 0 x l)) r.val) := by
  pointwise [k0_pay40, k0_pay39]
  rw [lit_bot]
  simp only [own_at]

theorem own_acc_at (d : Fin 128) : k0_pay41 q k0_pay36 (k0_pay37 lanes) u v (ix3 0 r d) =
    ∑ x : Fin 256, wt (ownScores (fun l => q (ix2 r l)) (fun x l => u (ix4 0 0 x l)) r.val x)
      (k0_pay40 q k0_pay36 (k0_pay37 lanes) u (ix3 0 r 0)) * v (ix4 0 0 x d) := by
  rw [own_top_at]
  pointwise [k0_pay41, k0_pay39]
  rw [lit_bot]
  simp only [own_at]
  rfl

theorem group_at (x : Fin 2048) : k0_pay13 q y (ix4 0 0 r x) = ∑ l : Fin 128, q (ix2 r l) * y (ix4 0 0 x l) := by
  pointwise [k0_pay13, k0_pay12]

theorem group_top_at : k0_pay14 q y (ix4 0 0 r 0) =
    (Finset.univ : Finset (Fin 2048)).fold max ⊥ fun x => ∑ l : Fin 128, q (ix2 r l) * y (ix4 0 0 x l) := by
  pointwise [k0_pay14, k0_pay12]
  rw [lit_bot]

theorem next_top_at : k0_pay6 (k0_pay3 t g) (ix3 0 r 0) = max (t (ix3 0 r 0)) (g (ix4 0 0 r 0)) := by
  pointwise [k0_pay6, k0_pay3, k0_pay2]

theorem next_acc_at (d : Fin 128) : k0_pay5 (k0_pay4 t g s a w) (ix3 0 r d) =
    wt (t (ix3 0 r 0)) (max (t (ix3 0 r 0)) (g (ix4 0 0 r 0))) * a (ix3 0 r d)
      + ∑ x : Fin 2048, wt (s (ix4 0 0 r x)) (max (t (ix3 0 r 0)) (g (ix4 0 0 r 0))) * w (ix4 0 0 x d) := by
  pointwise [k0_pay5, k0_pay4, k0_pay3, k0_pay2]
  rfl

theorem out_low (d : Fin 128) (hd : d.val < 64) : k0_pay1 lanes (k0_pay60 a) a a' a' (ix3 0 r d) =
    a (ix3 0 r d) * Ideal.div 1 (a (ix3 0 r 64)) := by
  pointwise [k0_pay1, k0_pay60]
  rw [low_word, if_pos hd]

theorem out_high (d e : Fin 128) (hd : d.val = e.val + 64) : k0_pay1 lanes (k0_pay60 a) a a' a' (ix3 0 r d) =
    a' (ix3 0 r e) * Ideal.div 1 (a' (ix3 0 r 64)) := by
  pointwise [k0_pay1, k0_pay60]
  rw [low_word, if_neg (by omega)]
  have he : (⟨(d.val + 128 - 64) % 128, by omega⟩ : Fin 128) = e := Fin.ext (by show (d.val + 128 - 64) % 128 = e.val; omega)
  rw [he]
end Pieces

section Walk
variable (x0 : Vec Ideal S1x2x256x128 .bf16) (x1 x2 : Vec Ideal S1x2x8192x128 .bf16) (b : Fin 32) (hh : Fin 2) (r : Fin 256)

/-- One query's 128 lanes, and one key's, and one value's. -/
def qLanes (l : Fin 128) : EReal := x0 (ix4 0 hh r l)
def kLanes (x : Vec Ideal S1x2x8192x128 .bf16) (j : Fin 8192) (l : Fin 128) : EReal := x (ix4 0 hh j l)

theorem qry_at (l : Fin 128) : qry x0 hh (ix2 r l) = qLanes x0 hh r l := by
  unfold qry qLanes
  pointwise [k0_pay28]
  refine congrArg x0 (funext fun i => Fin.ext ?_)
  fin_cases i
  · show 0 + 0 * 1 = 0
    rfl
  · show hh.val + 0 * 1 = hh.val
    omega
  · show 0 + 1 * r.val = r.val
    omega
  · show 0 + 1 * l.val = l.val
    omega

theorem grp_at (g : ℕ) (hg : g < 4) (x : Fin 2048) (l : Fin 128) :
    grp x1 hh g (ix4 0 0 x l) = kLanes hh x1 ⟨2048 * g + x.val, by omega⟩ l := by
  unfold grp kLanes
  refine congrArg x1 (funext fun i => Fin.ext ?_)
  fin_cases i
  · show 0 + 0 * 1 = 0
    rfl
  · show hh.val + 0 * 1 = hh.val
    omega
  · show 2048 * (g % 4) + 1 * x.val = 2048 * g + x.val
    omega
  · show 0 + 1 * l.val = l.val
    omega

theorem own_lanes (x : Fin 256) (l : Fin 128) :
    own x1 hh b (ix4 0 0 x l) = kLanes hh x1 ⟨256 * b.val + x.val, by omega⟩ l := by
  unfold own kLanes
  refine congrArg x1 (funext fun i => Fin.ext ?_)
  fin_cases i
  · show 0 + 0 * 1 = 0
    rfl
  · show hh.val + 0 * 1 = hh.val
    omega
  · show 256 * b.val + 1 * x.val = 256 * b.val + x.val
    omega
  · show 0 + 1 * l.val = l.val
    omega

/-- The scores met before group `k`, at their places. -/
def met : ℕ → Fin 8192 → EReal
  | 0 => win 8192 (256 * b.val) (ownScores (qLanes x0 hh r) (fun x l => kLanes hh x1 ⟨256 * b.val + x.val, by omega⟩ l) r.val)
  | k + 1 => fun j => max (met k j) (win 8192 (2048 * k) (fun x : Fin 2048 => ∑ l, qLanes x0 hh r l * kLanes hh x1 ⟨(2048 * k + x.val) % 8192, by omega⟩ l) j)

theorem walk_held (n : ℕ) (hn : n ≤ 4)
    (dj : ∀ k < n, ∀ j, met x0 x1 b hh r k j = ⊥ ∨
      win 8192 (2048 * k) (fun x : Fin 2048 => ∑ l, qLanes x0 hh r l * kLanes hh x1 ⟨(2048 * k + x.val) % 8192, by omega⟩ l) j = ⊥) :
    Held (met x0 x1 b hh r n) (kLanes hh x2) (top x0 x1 b hh n (ix3 0 r 0)) (fun d => acc x0 x1 x2 b hh n (ix3 0 r d)) := by
  induction n with
  | zero =>
    refine Held.first (256 * b.val) (by omega) _ _ _ _ ?_ fun d => ?_
    · unfold top
      rw [own_top_at]
      simp only [qry_at, own_lanes]
      exact isMax_fold _
    · unfold acc top
      rw [own_acc_at]
      simp only [qry_at, own_lanes]
  | succ k ih =>
    have hk : k < 4 := by omega
    refine Held.step (ih (by omega) fun k' h' => dj k' (by omega)) (2048 * k) (by omega) _ (k0_pay14 (qry x0 hh) (grp x1 hh k) (ix4 0 0 r 0)) _ _ ?_ ?_ (dj k (by omega)) fun d => ?_
    · rw [group_top_at]
      simp only [qry_at, grp_at _ _ _ hk]
      have e : ∀ x : Fin 2048, (⟨(2048 * k + x.val) % 8192, by omega⟩ : Fin 8192) = ⟨2048 * k + x.val, by omega⟩ := fun x => Fin.ext (Nat.mod_eq_of_lt (by omega))
      simp only [e]
      exact isMax_fold _
    · exact next_top_at _ _ _
    · have e : ∀ x : Fin 2048, (⟨(2048 * k + x.val) % 8192, by omega⟩ : Fin 8192) = ⟨2048 * k + x.val, by omega⟩ := fun x => Fin.ext (Nat.mod_eq_of_lt (by omega))
      simp only [e]
      refine (next_acc_at _ _ _ _ _ r d).trans ?_
      simp only [group_at, qry_at, grp_at _ _ _ hk]
      rw [top, next_top_at]
end Walk

end Cert.Attn

end
-- ==== Proof.Attn.Scored.lean ====
/-
  One query's walk against the reference: which scores the walk has met, and what its accumulator over its weights is.
-/
module

public import proofs.«01_k».proof.Proof.Attn.Block
public import proofs.«01_k».proof.Proof.Attn.Scores

@[expose] public section

set_option maxRecDepth 16384

noncomputable section

namespace Cert.Attn

open Idealize.ShloMosaic Idealize.ShloMosaic.TcCoe
open Cert.KernelIdeal Cert.KernelIdeal.Gen

/-- Two scores of one key, at most one of them there for two reasons. -/
theorem max_if (A B C D : Prop) [Decidable (A ∨ (B ∧ C))] [Decidable ((¬B ∧ D) ∧ C)] [Decidable (A ∨ (D ∧ C))] (hBD : B → D) (x : EReal) :
    max (if A ∨ (B ∧ C) then x else ⊥) (if (¬B ∧ D) ∧ C then x else ⊥) = if A ∨ (D ∧ C) then x else ⊥ := by
  by_cases a : A <;> by_cases b : B <;> by_cases c : C <;> by_cases d : D <;> simp_all

section
variable (x0 : Vec Ideal S1x2x256x128 .bf16) (x1 x2 : Vec Ideal S1x2x8192x128 .bf16) (b : Fin 32) (hh : Fin 2) (r : Fin 256)
  {q : Fin 64 → EReal} {k : Fin 8192 → Fin 64 → EReal} {bias : Fin 32 → EReal} {s : ℝ} {pick : Fin 32 → Prop} (t : ℕ)

/-- Of key `j`: its block. -/
def blockOf (j : Fin 8192) : Fin 32 := ⟨j.val / 256, by omega⟩

variable (ht : t = 256 * b.val + r.val)
  (hL : ∀ j : Fin 8192, Lanes q (k j) bias (blockOf j) s j.val (qLanes x0 hh r) (kLanes hh x1 j))

open Classical in
include ht hL in
theorem own_win (j : Fin 8192) :
    win 8192 (256 * b.val) (ownScores (qLanes x0 hh r) (fun x l => kLanes hh x1 ⟨256 * b.val + x.val, by omega⟩ l) r.val) j =
      if b.val = j.val / 256 ∧ j.val ≤ t then shift octave (s * t) (score q (k j) s t j.val) else ⊥ := by
  by_cases h : b.val = j.val / 256
  · have hx : j.val - 256 * b.val < 256 := by omega
    have e : (⟨256 * b.val + (⟨j.val - 256 * b.val, hx⟩ : Fin 256).val, by show 256 * b.val + (j.val - 256 * b.val) < 8192; omega⟩ : Fin 8192) = j :=
      Fin.ext (by show 256 * b.val + (j.val - 256 * b.val) = j.val; omega)
    rw [win_in 8192 (256 * b.val) _ ⟨j.val - 256 * b.val, hx⟩ j (by show j.val = 256 * b.val + (j.val - 256 * b.val); omega), ownScores]
    by_cases hr : j.val ≤ t
    · rw [if_pos (by show j.val - 256 * b.val ≤ r.val; omega), if_pos ⟨h, hr⟩, ← (hL j).own t]
      simp only [e]
    · rw [if_neg (by show ¬(j.val - 256 * b.val ≤ r.val); omega), if_neg fun c => hr c.2]
  · rw [win_out _ _ _ _ (by omega), if_neg fun c => h c.1]

variable (hb : ∀ x, bias x = open Classical in if pick x ∧ x.val < b.val then 0 else ⊥)

open Classical in
include hL hb in
theorem group_win (g : ℕ) (hg : g < 4) (j : Fin 8192) :
    win 8192 (2048 * g) (fun x : Fin 2048 => ∑ l, qLanes x0 hh r l * kLanes hh x1 ⟨(2048 * g + x.val) % 8192, by omega⟩ l) j =
      if (¬(j.val < 2048 * g) ∧ j.val < 2048 * (g + 1)) ∧ (pick (blockOf j) ∧ (blockOf j).val < b.val)
        then shift octave (s * t) (score q (k j) s t j.val) else ⊥ := by
  by_cases h : ¬(j.val < 2048 * g) ∧ j.val < 2048 * (g + 1)
  · have hx : j.val - 2048 * g < 2048 := by omega
    have e : (⟨(2048 * g + (⟨j.val - 2048 * g, hx⟩ : Fin 2048).val) % 8192, by omega⟩ : Fin 8192) = j :=
      Fin.ext (by show (2048 * g + (j.val - 2048 * g)) % 8192 = j.val; omega)
    rw [win_in 8192 (2048 * g) _ ⟨j.val - 2048 * g, hx⟩ j (by show j.val = 2048 * g + (j.val - 2048 * g); omega)]
    simp only [e]
    rw [(hL j).group t (pick (blockOf j) ∧ (blockOf j).val < b.val) (hb _)]
    by_cases c : pick (blockOf j) ∧ (blockOf j).val < b.val
    · rw [if_pos c, if_pos ⟨h, c⟩]
    · rw [if_neg c, if_neg fun e => c e.2]
  · rw [win_out _ _ _ _ (by omega), if_neg fun c => h c.1]

open Classical in
include ht hL hb in
/-- The scores met before group `n`. -/
theorem met_eq (n : ℕ) (hn : n ≤ 4) (j : Fin 8192) : met x0 x1 b hh r n j =
    if (b.val = j.val / 256 ∧ j.val ≤ t) ∨ (j.val < 2048 * n ∧ (pick (blockOf j) ∧ (blockOf j).val < b.val))
      then shift octave (s * t) (score q (k j) s t j.val) else ⊥ := by
  induction n with
  | zero =>
    rw [met, own_win x0 x1 b hh r t ht hL]
    by_cases c : b.val = j.val / 256 ∧ j.val ≤ t
    · rw [if_pos c, if_pos (Or.inl c)]
    · rw [if_neg c, if_neg (by rintro (h | h); exacts [c h, by omega])]
  | succ n ih =>
    show max (met x0 x1 b hh r n j) _ = _
    rw [ih (by omega), group_win x0 x1 b hh r t hL hb n (by omega)]
    exact max_if (b.val = j.val / 256 ∧ j.val ≤ t) (j.val < 2048 * n) _ (j.val < 2048 * (n + 1)) (fun h => by omega) _

open Classical in
include ht hL hb in
theorem walk_all (n : ℕ) (hn : n ≤ 4) :
    Held (met x0 x1 b hh r n) (kLanes hh x2) (top x0 x1 b hh n (ix3 0 r 0)) (fun d => acc x0 x1 x2 b hh n (ix3 0 r d)) := by
  refine walk_held x0 x1 x2 b hh r n hn fun g hg j => ?_
  rw [met_eq x0 x1 b hh r t ht hL hb g (by omega), group_win x0 x1 b hh r t hL hb g (by omega)]
  by_cases c : (¬(j.val < 2048 * g) ∧ j.val < 2048 * (g + 1)) ∧ (pick (blockOf j) ∧ (blockOf j).val < b.val)
  · left
    refine if_neg ?_
    rintro (h | h)
    · have := c.2.2; rw [h.1] at this; exact absurd this (lt_irrefl _)
    · exact c.1.1 h.1
  · right; exact if_neg c

open Classical in
include ht hL hb in
/-- What the walk's accumulator over its weights is: the reference's weighted sum. -/
theorem walk_out {rf : Fin 8192 → EReal} {M : EReal} (hM : IsMax rf M)
    (hrf : ∀ j : Fin 8192, rf j = if Sees t j.val (pick (blockOf j)) then score q (k j) s t j.val else ⊥)
    (hv : ∀ j, kLanes hh x2 j 64 = 1) (d : Fin 128) :
    acc x0 x1 x2 b hh ((b.val - 1) / 8 + 1) (ix3 0 r d) * Ideal.div 1 (acc x0 x1 x2 b hh ((b.val - 1) / 8 + 1) (ix3 0 r 64)) =
      ∑ l, Ideal.exp (rf l - M) * Ideal.div 1 (∑ l, Ideal.exp (rf l - M)) * kLanes hh x2 l d := by
  refine Held.out octave_pos octave_log (s * t) hM (walk_all x0 x1 x2 b hh r t ht hL hb _ (by omega)) (fun j => ?_) 64 hv d
  rw [met_eq x0 x1 b hh r t ht hL hb _ (by omega), hrf j]
  have hbl : (blockOf j).val = j.val / 256 := rfl
  by_cases c : Sees t j.val (pick (blockOf j))
  · rw [if_pos c, if_pos]
    rcases c with ⟨h, h'⟩ | ⟨h, h'⟩
    · exact Or.inl ⟨by omega, h'⟩
    · exact Or.inr ⟨by omega, h, by omega⟩
  · rw [if_neg c, if_neg, shift_bot octave_pos]
    rintro (⟨h, h'⟩ | ⟨-, h, h'⟩)
    · exact c (Or.inl ⟨by omega, h'⟩)
    · exact c (Or.inr ⟨h, by omega⟩)
end

end Cert.Attn

end
-- ==== Proof.Attn.Trip.lean ====
/-
  One trip of the attention kernel's walk, and the walk by its invariant.
-/
module

public import proofs.«01_k».proof.Proof.Attn.Walk
public import proofs.«01_k».proof.Proof.Gen.KernelIdeal.Frame
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resources of one run. -/
abbrev Res (F : FTy → Type) := MT nD τ sig Unit (Elt F) ℕ (UR sig nD τ) ℕ

attribute [local irreducible] k0_pay2 k0_pay3 k0_pay4 k0_pay5 k0_pay6 k0_pay7 k0_pay8 k0_pay9 k0_pay10 k0_pay11 k0_pay13 k0_pay14 k0_pay47 k0_pay48
  k0_off3 k0_off4 k0_off5 k0_off6 k0_off7 k0_off8 k0_off9 k0_off10 k0_off11 k0_off12 k0_off13 k0_off14

/-! ## Two stores, read back -/

section
variable {sp : Space} {s : Shape} {e : EltTy} (v : View sig .tc sp s e) (f : v.ty.Contents (Elt F)) {off0 off1 o0 o1 size : Fin s.rank → ℕ}
  (inb0 : ∀ a, off0 a + size a ≤ s.size a) (inb1 : ∀ a, off1 a + size a ≤ s.size a)
  (w0 : (Rect.unit off0 size inb0).shape.Idx → Elt F e) (w1 : (Rect.unit off1 size inb1).shape.Idx → Elt F e)
  (L : List (View.Piece (Elt F) s e))

/-- The store made last. -/
theorem last_store (h1 : off1 = o1) (inb : ∀ a, o1 a + size a ≤ s.size a) :
    VecWindow.window (v.read (Elt F) (v.writes (Elt F) f (⟨Rect.unit off1 size inb1, w1⟩ :: L))) o1 size inb = w1 := by
  subst h1
  rw [View.read_writes_cons_put _ _ _ _ _ rfl]
  exact VecWindow.window_put_same _ _ _ _ _

/-- A store before the last, apart from it. -/
theorem under_store (h1 : off1 = o1) (inb : ∀ a, o0 a + size a ≤ s.size a) (a : Fin s.rank) (ha : o0 a + size a ≤ o1 a ∨ o1 a + size a ≤ o0 a) :
    VecWindow.window (v.read (Elt F) (v.writes (Elt F) f (⟨Rect.unit off1 size inb1, w1⟩ :: L))) o0 size inb
      = VecWindow.window (v.read (Elt F) (v.writes (Elt F) f L)) o0 size inb := by
  subst h1
  rw [View.read_writes_cons_put _ _ _ _ _ rfl]
  exact VecWindow.window_put_of_disjoint _ _ _ _ _ _ _ a ha

end

/-- Two stores into one half of scores, one a head, read back. -/
theorem scores_zero (arg : Memref sig .tc .vmem S2x2x256x2048 .f32) (f : arg.view.ty.Contents (Elt F)) (n : ℕ) {p1 p0 : Fin 4 → ℕ}
    (h1 : p1 = ![n, 1, 0, 0]) (h0 : p0 = ![n, 0, 0, 0]) (inb1 : ∀ a, p1 a + S1x1x256x2048.size a ≤ S2x2x256x2048.size a)
    (inb0 : ∀ a, p0 a + S1x1x256x2048.size a ≤ S2x2x256x2048.size a) (w1 w0 : Vec F S1x1x256x2048 .f32) {W : Vec F S1x1x256x2048 .f32} (hW : w0 = W) (inb : _) :
    VecWindow.window (s := S2x2x256x2048) (arg.view.read (Elt F) (arg.view.writes (Elt F) f
      [⟨Rect.unit (s := S2x2x256x2048) p1 S1x1x256x2048.size inb1, w1⟩, ⟨Rect.unit (s := S2x2x256x2048) p0 S1x1x256x2048.size inb0, w0⟩])) ![n, (0 : Fin 2).val, 0, 0] S1x1x256x2048.size inb = W := by
  subst hW
  have d : ∀ a, (![n, (0 : Fin 2).val, 0, 0] : Fin 4 → ℕ) a = p0 a := fun a => by rw [h0]; rfl
  obtain rfl : (![n, (0 : Fin 2).val, 0, 0] : Fin 4 → ℕ) = p0 := funext d
  refine (under_store arg.view f inb1 w1 _ rfl inb (1 : Fin 4) ?_).trans (last_store arg.view f inb0 w0 _ rfl inb)
  left; rw [h1]; show 0 + 1 ≤ 1; omega

theorem scores_one (arg : Memref sig .tc .vmem S2x2x256x2048 .f32) (f : arg.view.ty.Contents (Elt F)) (n : ℕ) {p1 : Fin 4 → ℕ}
    (h1 : p1 = ![n, 1, 0, 0]) (inb1 : ∀ a, p1 a + S1x1x256x2048.size a ≤ S2x2x256x2048.size a) (w1 : Vec F S1x1x256x2048 .f32) (L) {W : Vec F S1x1x256x2048 .f32} (hW : w1 = W) (inb : _) :
    VecWindow.window (s := S2x2x256x2048) (arg.view.read (Elt F) (arg.view.writes (Elt F) f
      (⟨Rect.unit (s := S2x2x256x2048) p1 S1x1x256x2048.size inb1, w1⟩ :: L))) ![n, (1 : Fin 2).val, 0, 0] S1x1x256x2048.size inb = W := by
  subst hW
  obtain rfl : (![n, (1 : Fin 2).val, 0, 0] : Fin 4 → ℕ) = p1 := funext fun a => by rw [h1]; rfl
  exact last_store arg.view f inb1 w1 L rfl inb

/-- Two stores into one half of tops, one a head, read back. -/
theorem tops_zero (arg : Memref sig .tc .vmem S2x2x256x1 .f32) (f : arg.view.ty.Contents (Elt F)) (n : ℕ) {p1 p0 : Fin 4 → ℕ}
    (h1 : p1 = ![n, 1, 0, 0]) (h0 : p0 = ![n, 0, 0, 0]) (inb1 : ∀ a, p1 a + S1x1x256x1.size a ≤ S2x2x256x1.size a)
    (inb0 : ∀ a, p0 a + S1x1x256x1.size a ≤ S2x2x256x1.size a) (w1 w0 : Vec F S1x1x256x1 .f32) {W : Vec F S1x1x256x1 .f32} (hW : w0 = W) (inb : _) :
    VecWindow.window (s := S2x2x256x1) (arg.view.read (Elt F) (arg.view.writes (Elt F) f
      [⟨Rect.unit (s := S2x2x256x1) p1 S1x1x256x1.size inb1, w1⟩, ⟨Rect.unit (s := S2x2x256x1) p0 S1x1x256x1.size inb0, w0⟩])) ![n, (0 : Fin 2).val, 0, 0] S1x1x256x1.size inb = W := by
  subst hW
  have d : ∀ a, (![n, (0 : Fin 2).val, 0, 0] : Fin 4 → ℕ) a = p0 a := fun a => by rw [h0]; rfl
  obtain rfl : (![n, (0 : Fin 2).val, 0, 0] : Fin 4 → ℕ) = p0 := funext d
  refine (under_store arg.view f inb1 w1 _ rfl inb (1 : Fin 4) ?_).trans (last_store arg.view f inb0 w0 _ rfl inb)
  left; rw [h1]; show 0 + 1 ≤ 1; omega

theorem tops_one (arg : Memref sig .tc .vmem S2x2x256x1 .f32) (f : arg.view.ty.Contents (Elt F)) (n : ℕ) {p1 : Fin 4 → ℕ}
    (h1 : p1 = ![n, 1, 0, 0]) (inb1 : ∀ a, p1 a + S1x1x256x1.size a ≤ S2x2x256x1.size a) (w1 : Vec F S1x1x256x1 .f32) (L) {W : Vec F S1x1x256x1 .f32} (hW : w1 = W) (inb : _) :
    VecWindow.window (s := S2x2x256x1) (arg.view.read (Elt F) (arg.view.writes (Elt F) f
      (⟨Rect.unit (s := S2x2x256x1) p1 S1x1x256x1.size inb1, w1⟩ :: L))) ![n, (1 : Fin 2).val, 0, 0] S1x1x256x1.size inb = W := by
  subst hW
  obtain rfl : (![n, (1 : Fin 2).val, 0, 0] : Fin 4 → ℕ) = p1 := funext fun a => by rw [h1]; rfl
  exact last_store arg.view f inb1 w1 L rfl inb

/-- A load of a scratch buffer, where its window is known. -/
theorem load_at {sp : Space} {s : Shape} {e : EltTy} (v : View sig .tc sp s e) (f : v.ty.Contents (Elt F)) {off o size : Fin s.rank → ℕ}
    (inb : ∀ a, off a + size a ≤ s.size a) (h : off = o) {W : (Shape.Idx ⟨s.rank, size⟩) → Elt F e}
    (hw : ∀ inb', VecWindow.window (v.read (Elt F) f) o size inb' = W) :
    v.readAt (Elt F) (Rect.unit off size inb).toLoadRect f = W := by
  subst h; exact hw inb

/-- A load of a group of keys or values. -/
theorem load_grp (arg : Memref sig .tc .vmem S1x2x8192x128 .bf16) (harg : arg.IsWhole) (x : Vec F S1x2x8192x128 .bf16) (hh : Fin 2) (g : ℕ)
    {off : Fin 4 → ℕ} (h : off = ![0, hh.val, 2048 * (g % 4), 0]) (inb : ∀ a, off a + S1x1x2048x128.size a ≤ S1x2x8192x128.size a) :
    View.readAt (Elt F) arg.view (Rect.unit (s := S1x2x8192x128) off S1x1x2048x128.size inb).toLoadRect (harg.unread x) = grp x hh g := by
  subst h
  rw [View.readAt_unit _ _ _ rfl inb, harg.read_unread]; rfl

/-- A load of a block of keys or values. -/
theorem load_own (arg : Memref sig .tc .vmem S1x2x8192x128 .bf16) (harg : arg.IsWhole) (x : Vec F S1x2x8192x128 .bf16) (hh : Fin 2) (b : Fin 32)
    {off : Fin 4 → ℕ} (h : off = ![0, hh.val, 256 * b.val, 0]) (inb : ∀ a, off a + S1x1x256x128.size a ≤ S1x2x8192x128.size a) :
    View.readAt (Elt F) arg.view (Rect.unit (s := S1x2x8192x128) off S1x1x256x128.size inb).toLoadRect (harg.unread x) = own x hh b := by
  subst h
  rw [View.readAt_unit _ _ _ rfl inb, harg.read_unread]; rfl

section
variable (c : Dev nD) (i : grid0.Coords) (arg3 : Memref sig .tc .vmem S1x2x256x128 .bf16) (harg3 : arg3.IsWhole)
  (arg4 : Memref sig .tc .vmem S1x2x8192x128 .bf16) (harg4 : arg4.IsWhole) (arg5 : Memref sig .tc .vmem S1x2x8192x128 .bf16) (harg5 : arg5.IsWhole)
  (arg6 : Memref sig .tc .vmem S1x256x128 .bf16) (harg6 : arg6.IsWhole) (arg7 : Memref sig .tc .vmem S2x2x256x2048 .f32) (harg7 : arg7.IsWhole)
  (arg8 : Memref sig .tc .vmem S2x2x256x1 .f32) (harg8 : arg8.IsWhole) (arg9 : Memref sig .tc .vmem S2x256x1 .f32) (harg9 : arg9.IsWhole)
  (arg10 : Memref sig .tc .vmem S2x256x128 .f32) (harg10 : arg10.IsWhole)
  (x0 : Vec F S1x2x256x128 .bf16) (x1 x2 : Vec F S1x2x8192x128 .bf16)

/-- Before trip `k`: the keys and values as given, the scratch as `Here` says. -/
def walkInv (k : ℕ) (_ : PUnit.{1}) : sProp (Res F) :=
  iprop((arg4.view.loc (c : Thread nD τ) ↦[arg4.view.set]{fullShare} harg4.unread x1) ∗ (arg5.view.loc (c : Thread nD τ) ↦[arg5.view.set]{fullShare} harg5.unread x2)
    ∗ ∃ f7, ∃ f8, ∃ f9, ∃ f10, ⌜Here x0 x1 x2 (i 2) k (arg7.view.read (Elt F) f7) (arg8.view.read (Elt F) f8) (arg9.view.read (Elt F) f9) (arg10.view.read (Elt F) f10)⌝
      ∗ (arg7.view.loc (c : Thread nD τ) ↦[arg7.view.set]{fullShare} f7) ∗ (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10))

theorem trip (v19 v52 : BitVec 32) (v92 : FVec F S256x256 .f32) (v94 : FVec F S256x1 .f32) (k : Fin (k0_t1_loop i).trips) (E : Set ℕ) :
    walkInv c i arg4 harg4 arg5 harg5 arg7 arg8 arg9 arg10 x0 x1 x2 k.val ⟨⟩
      ⊢ wp frame (wpE (defs₀ (F := F)) Variants.none c none) E
          (k0_t1_body (F := F) i arg3 harg3 arg4 harg4 arg5 harg5 arg6 harg6 arg7 harg7 arg8 harg8 arg9 harg9 arg10 harg10 v19 (qry x0 0) (qry x0 1) v52 v92 v94 k PUnit.unit)
          (fun u => walkInv c i arg4 harg4 arg5 harg5 arg7 arg8 arg9 arg10 x0 x1 x2 (k.val + 1) u) := by
  unfold walkInv k0_t1_body
  simp only [k0_part1_eq_skeleton, k0_part2_eq_skeleton, k0_part3_eq_skeleton]
  iintro ⟨H4, H5, %f7, %f8, %f9, %f10, %h, H7, H8, H9, H10⟩
  sl_exec
  sl_step
  isplitl [H4]; · iexact H4
  isplitl [H5]; · iexact H5
  iexists _; iexists _; iexists _; iexists _
  isplitr
  swap
  · isplitl [H7]; · iexact H7
    isplitl [H8]; · iexact H8
    isplitl [H9]; · iexact H9
    iexact H10
  ipureintro
  have hk := trip_lt i k
  have o5 : k0_off5 i k = ![0, 0, 2048 * (k.val % 4), 0] := by rw [off5, Nat.mod_eq_of_lt (by omega)]
  have o8 : k0_off8 i k = ![0, 1, 2048 * (k.val % 4), 0] := by rw [off8, Nat.mod_eq_of_lt (by omega)]
  have o9 : k0_off9 i k = ![0, 0, 2048 * ((k.val + 1) % 4), 0] := by rw [off9, Nat.mod_eq_of_lt (by omega)]
  have o12 : k0_off12 i k = ![0, 1, 2048 * ((k.val + 1) % 4), 0] := by rw [off12, Nat.mod_eq_of_lt (by omega)]
  have key0 := load_grp arg4 harg4 x1 0 (k.val + 1) o9 (k0_off9_inb i k)
  have key1 := load_grp arg4 harg4 x1 1 (k.val + 1) o12 (k0_off12_inb i k)
  have val0 := load_grp arg5 harg5 x2 0 k.val o5 (k0_off5_inb i k)
  have val1 := load_grp arg5 harg5 x2 1 k.val o8 (k0_off8_inb i k)
  have top0 := load_at arg9.view f9 (size := S1x256x1.size) inb_S2x256x1_S1x256x1_0_0_0 rfl (h.top 0)
  have top1 := load_at arg9.view f9 (size := S1x256x1.size) inb_S2x256x1_S1x256x1_1_0_0 rfl (h.top 1)
  have acc0 := load_at arg10.view f10 (size := S1x256x128.size) inb_S2x256x128_S1x256x128_0_0_0 rfl (h.acc 0)
  have acc1 := load_at arg10.view f10 (size := S1x256x128.size) inb_S2x256x128_S1x256x128_1_0_0 rfl (h.acc 1)
  have tops0 := load_at arg8.view f8 (size := S1x1x256x1.size) (k0_off3_inb i k) (off3 i k) (h.tops 0)
  have tops1 := load_at arg8.view f8 (size := S1x1x256x1.size) (k0_off6_inb i k) (off6 i k) (h.tops 1)
  have scores0 := load_at arg7.view f7 (size := S1x1x256x2048.size) (k0_off4_inb i k) (off4 i k) (h.scores 0)
  have scores1 := load_at arg7.view f7 (size := S1x1x256x2048.size) (k0_off7_inb i k) (off7 i k) (h.scores 1)
  refine ⟨Fin.forall_fin_two.mpr ⟨fun inb => ?_, fun inb => ?_⟩, Fin.forall_fin_two.mpr ⟨fun inb => ?_, fun inb => ?_⟩,
    Fin.forall_fin_two.mpr ⟨fun inb => ?_, fun inb => ?_⟩, Fin.forall_fin_two.mpr ⟨fun inb => ?_, fun inb => ?_⟩⟩
  · exact scores_zero arg7 f7 ((k.val + 1) % 2) (off13 i k) (off10 i k) (k0_off13_inb i k) (k0_off10_inb i k) _ _ (by rw [key0]) inb
  · exact scores_one arg7 f7 _ (off13 i k) (k0_off13_inb i k) _ _ (by rw [scores_next, key1]) inb
  · exact tops_zero arg8 f8 ((k.val + 1) % 2) (off14 i k) (off11 i k) (k0_off14_inb i k) (k0_off11_inb i k) _ _ (by unfold trip.sl.r_4; rw [key0]) inb
  · exact tops_one arg8 f8 _ (off14 i k) (k0_off14_inb i k) _ _ (by rw [tops_next, key1]) inb
  · refine (under_store _ _ _ _ _ rfl inb 0 (Or.inl (by show 0 + 1 ≤ 1; omega))).trans ?_
    refine (last_store _ _ _ _ _ rfl inb).trans ?_
    unfold trip.sl.r
    rw [top0, tops0]; rfl
  · refine (last_store _ _ _ _ _ rfl inb).trans ?_
    unfold trip.sl.r_2
    unfold trip.sl.v259
    rw [top_second, tops1, top1]; rfl
  · refine (under_store _ _ _ _ _ rfl inb 0 (Or.inl (by show 0 + 1 ≤ 1; omega))).trans ?_
    refine (last_store _ _ _ _ _ rfl inb).trans ?_
    unfold trip.sl.r_1
    rw [top0, tops0, scores0, acc0, val0]; rfl
  · refine (last_store _ _ _ _ _ rfl inb).trans ?_
    unfold trip.sl.r_3
    unfold trip.sl.v259 trip.sl.v274
    rw [acc_second, tops1, scores1, top1, acc1, val1]; rfl

end

end Cert.Attn
-- ==== Proof.Attn.Body.lean ====
/-
  One point of the attention kernel: from its queries and all keys and values to the block it leaves.
-/
module

public import proofs.«01_k».proof.Proof.Attn.Trip

@[expose] public section

set_option maxRecDepth 16384
set_option maxHeartbeats 4000000

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

attribute [local irreducible] k0_pay1 k0_pay2 k0_pay3 k0_pay4 k0_pay5 k0_pay6 k0_pay7 k0_pay8 k0_pay9 k0_pay10 k0_pay11 k0_pay12 k0_pay13 k0_pay14 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45
  k0_pay47 k0_pay48 k0_pay54 k0_pay55 k0_pay56 k0_pay57 k0_pay58 k0_pay59 k0_pay60
  k0_off1 k0_off2 k0_off27 k0_off28 k0_off29 k0_off30 k0_off31 k0_off32

/-- The walk's trips come out even: the rest of the unrolled loop makes none. -/
theorem trips2_eq (i : grid0.Coords) : (k0_t2_loop i).trips = 0 :=
  (by decide +kernel : ∀ b : Fin 32, (k0_t2_loop (atBlock b)).trips = 0) (i 2)

/-- A load of the queries of a head. -/
theorem load_qry (arg : Memref sig .tc .vmem S1x2x256x128 .bf16) (harg : arg.IsWhole) (x : Vec F S1x2x256x128 .bf16) (hh : Fin 2)
    {off : Fin 4 → ℕ} (h : off = ![0, hh.val, 0, 0]) (inb : ∀ a, off a + S1x1x256x128.size a ≤ S1x2x256x128.size a) :
    View.readAt (Elt F) arg.view (Rect.unit (s := S1x2x256x128) off S1x1x256x128.size inb).toLoadRect (harg.unread x)
      = VecWindow.window (s := S1x2x256x128) x ![0, hh.val, 0, 0] S1x1x256x128.size (h ▸ inb) := by
  subst h
  rw [View.readAt_unit _ _ _ rfl inb, harg.read_unread]

/-- The scratch buffers at any contents. -/
def Loose (c : Dev nD) (arg7 : Memref sig .tc .vmem S2x2x256x2048 .f32)
    (arg8 : Memref sig .tc .vmem S2x2x256x1 .f32) (arg9 : Memref sig .tc .vmem S2x256x1 .f32) (arg10 : Memref sig .tc .vmem S2x256x128 .f32) :
    sProp (Res F) :=
  iprop((∃ d, owns (c : Thread nD τ) arg7 fullShare d)
    ∗ (∃ d, owns (c : Thread nD τ) arg8 fullShare d) ∗ (∃ d, owns (c : Thread nD τ) arg9 fullShare d)
    ∗ (∃ d, owns (c : Thread nD τ) arg10 fullShare d))

/-- The body runs to its end, keeping its inputs and leaving the block of the walk. -/
theorem body (c : Dev nD) (i : grid0.Coords) (arg3 : Memref sig .tc .vmem S1x2x256x128 .bf16) (harg3 : arg3.IsWhole)
    (arg4 : Memref sig .tc .vmem S1x2x8192x128 .bf16) (harg4 : arg4.IsWhole) (arg5 : Memref sig .tc .vmem S1x2x8192x128 .bf16) (harg5 : arg5.IsWhole)
    (arg6 : Memref sig .tc .vmem S1x256x128 .bf16) (harg6 : arg6.IsWhole) (arg7 : Memref sig .tc .vmem S2x2x256x2048 .f32) (harg7 : arg7.IsWhole)
    (arg8 : Memref sig .tc .vmem S2x2x256x1 .f32) (harg8 : arg8.IsWhole) (arg9 : Memref sig .tc .vmem S2x256x1 .f32) (harg9 : arg9.IsWhole)
    (arg10 : Memref sig .tc .vmem S2x256x128 .f32) (harg10 : arg10.IsWhole)
    (x0 : Vec F S1x2x256x128 .bf16) (x1 : Vec F S1x2x8192x128 .bf16) (x2 : Vec F S1x2x8192x128 .bf16) (E : Set ℕ) (K : PUnit → sProp (Res F)) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ Loose c arg7 arg8 arg9 arg10
        ∗ (iprop(owns (c : Thread nD τ) arg3 fullShare x0 ∗ owns (c : Thread nD τ) arg4 fullShare x1 ∗ owns (c : Thread nD τ) arg5 fullShare x2
            ∗ owns (c : Thread nD τ) arg6 fullShare (outBlock x0 x1 x2 (i 2))
            ∗ Loose c arg7 arg8 arg9 arg10) -∗ K ⟨⟩))
      ⊢ wp frame (wpE (defs₀ (F := F)) Variants.none c none) E
          (cc0_moba_prompt i arg3 harg3 arg4 harg4 arg5 harg5 arg6 harg6 arg7 harg7 arg8 harg8 arg9 harg9 arg10 harg10) K := by
  simp only [cc0_moba_prompt_eq_skeleton]; unfold cc0_moba_prompt_skel
  simp only [k0_part7_eq_skeleton, k0_part8_eq_skeleton, k0_part9_eq_skeleton, k0_part10_eq_skeleton, k0_part11_eq_skeleton, k0_part12_eq_skeleton]
  unfold Loose owns
  iintro ⟨⟨%f0, %hf0, H3⟩, ⟨%f1, %hf1, H4⟩, ⟨%f2, %hf2, H5⟩, ⟨%d6, %f6, -, H6⟩, ⟨⟨%d7, %f7, -, H7⟩, ⟨%d8, %f8, -, H8⟩, ⟨%d9, %f9, -, H9⟩, ⟨%d10, %f10, -, H10⟩⟩, Hk⟩
  obtain rfl := harg3.eq_unread hf0; obtain rfl := harg4.eq_unread hf1; obtain rfl := harg5.eq_unread hf2
  sl_exec
  sl_for (walkInv c i arg4 harg4 arg5 harg5 arg7 arg8 arg9 arg10 x0 x1 x2) $$ [H4 H5 H7 H8 H9 H10]
  case region =>
    intro k u
    have q0 : body.sl.r c arg3 harg3 x0 = qry x0 0 := by
      unfold body.sl.r; rw [load_qry arg3 harg3 x0 0 (off := ![0, 0, 0, 0]) rfl]; rfl
    have q1 : body.sl.r_1 c arg3 harg3 x0 = qry x0 1 := by
      unfold body.sl.r_1; rw [load_qry arg3 harg3 x0 1 (off := ![0, 1, 0, 0]) rfl]; exact query_second _
    unfold body.sl.prog.body_1
    rw [q0, q1]
    exact trip c i arg3 harg3 arg4 harg4 arg5 harg5 arg6 harg6 arg7 harg7 arg8 harg8 arg9 harg9 arg10 harg10 x0 x1 x2 _ _ _ _ k E
  · unfold body.sl.H9_2 body.sl.H10_2
    unfold walkInv
    isplitl [H4]; · iexact H4
    isplitl [H5]; · iexact H5
    iexists _; iexists _; iexists _; iexists _
    isplitr
    swap
    · isplitl [H7]; · iexact H7
      isplitl [H8]; · iexact H8
      isplitl [H9]; · iexact H9
      iexact H10
    ipureintro
    have q0 : body.sl.r c arg3 harg3 x0 = qry x0 0 := by
      unfold body.sl.r; rw [load_qry arg3 harg3 x0 0 (off := ![0, 0, 0, 0]) rfl]; rfl
    have q1 : body.sl.r_1 c arg3 harg3 x0 = qry x0 1 := by
      unfold body.sl.r_1; rw [load_qry arg3 harg3 x0 1 (off := ![0, 1, 0, 0]) rfl]; exact query_second _
    have key0 := load_grp arg4 harg4 x1 0 0 (off := ![0, 0, 0, 0]) rfl inb_S1x2x8192x128_S1x1x2048x128_0_0_0_0
    have key1 := load_grp arg4 harg4 x1 1 0 (off := ![0, 1, 0, 0]) rfl inb_S1x2x8192x128_S1x1x2048x128_0_1_0_0
    have own0 := load_own arg4 harg4 x1 0 (i 2) (off1 i) (k0_off1_inb i)
    have own1 := load_own arg4 harg4 x1 1 (i 2) (off2 i) (k0_off2_inb i)
    have val0 := load_own arg5 harg5 x2 0 (i 2) (off1 i) (k0_off1_inb i)
    have val1 := load_own arg5 harg5 x2 1 (i 2) (off2 i) (k0_off2_inb i)
    refine ⟨Fin.forall_fin_two.mpr ⟨fun inb => ?_, fun inb => ?_⟩, Fin.forall_fin_two.mpr ⟨fun inb => ?_, fun inb => ?_⟩,
      Fin.forall_fin_two.mpr ⟨fun inb => ?_, fun inb => ?_⟩, Fin.forall_fin_two.mpr ⟨fun inb => ?_, fun inb => ?_⟩⟩
    · refine scores_zero arg7 f7 (0 % 2) (p1 := ![0, 1, 0, 0]) (p0 := ![0, 0, 0, 0]) rfl rfl inb_S2x2x256x2048_S1x1x256x2048_0_1_0_0 inb_S2x2x256x2048_S1x1x256x2048_0_0_0_0 _ _ ?_ inb
      unfold body.sl.r_2
      rw [key0, scores_first]; rw [← q0]; rfl
    · refine scores_one arg7 f7 (0 % 2) (p1 := ![0, 1, 0, 0]) rfl inb_S2x2x256x2048_S1x1x256x2048_0_1_0_0 _ _ ?_ inb
      rw [q1, key1, scores_second]
    · refine tops_zero arg8 f8 (0 % 2) (p1 := ![0, 1, 0, 0]) (p0 := ![0, 0, 0, 0]) rfl rfl inb_S2x2x256x1_S1x1x256x1_0_1_0_0 inb_S2x2x256x1_S1x1x256x1_0_0_0_0 _ _ ?_ inb
      unfold body.sl.r_2
      rw [key0, tops_first]; rw [← q0]; rfl
    · refine tops_one arg8 f8 (0 % 2) (p1 := ![0, 1, 0, 0]) rfl inb_S2x2x256x1_S1x1x256x1_0_1_0_0 _ _ ?_ inb
      rw [q1, key1, tops_second]
    · refine (under_store _ _ _ _ _ rfl inb 0 (Or.inl (by show 0 + 1 ≤ 1; omega))).trans ?_
      refine (last_store _ _ _ _ _ rfl inb).trans ?_
      rw [q0, own0]; rfl
    · refine (last_store _ _ _ _ _ rfl inb).trans ?_
      unfold body.sl.r_4
      rw [q1, own1, own_top]; rfl
    · refine (under_store _ _ _ _ _ rfl inb 0 (Or.inl (by show 0 + 1 ≤ 1; omega))).trans ?_
      refine (last_store _ _ _ _ _ rfl inb).trans ?_
      rw [q0, own0, val0]; rfl
    · refine (last_store _ _ _ _ _ rfl inb).trans ?_
      unfold body.sl.r_3 body.sl.r_4
      rw [q1, own1, own_acc, val1]; rfl
  iintro %u HI
  unfold walkInv
  icases HI with ⟨H4, H5, %g7, %g8, %g9, %g10, %h, H7, H8, H9, H10⟩
  have ht : Scf.trips (k0_t1_loop i).lb (k0_t1_loop i).ub (k0_t1_loop i).st = ((i 2).val - 1) / 8 := trips_eq i
  rw [ht] at h
  sl_exec
  sl_for (fun _ _ => walkInv c i arg4 harg4 arg5 harg5 arg7 arg8 arg9 arg10 x0 x1 x2 (((i 2).val - 1) / 8) PUnit.unit) $$ [H4 H5 H7 H8 H9 H10]
  case region =>
    intro k; exact absurd (lt_of_lt_of_eq k.isLt (trips2_eq i)) (Nat.not_lt_zero _)
  · unfold walkInv
    isplitl [H4]; · iexact H4
    isplitl [H5]; · iexact H5
    iexists g7; iexists g8; iexists g9; iexists g10
    isplitr; · ipureintro; exact h
    isplitl [H7]; · iexact H7
    isplitl [H8]; · iexact H8
    isplitl [H9]; · iexact H9
    iexact H10
  clear h
  iintro %u2 HI
  unfold walkInv
  icases HI with ⟨H4, H5, %y7, %y8, %y9, %y10, %h, H7, H8, H9, H10⟩
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    have v0 := load_grp arg5 harg5 x2 0 (((i 2).val - 1) / 8) (off := k0_off29 i) (by have := (i 2).isLt; rw [off29, Nat.mod_eq_of_lt (a := ((i 2).val - 1) / 8) (by change (i 2).val < 32 at this; omega)]; rfl) (k0_off29_inb i)
    have v1 := load_grp arg5 harg5 x2 1 (((i 2).val - 1) / 8) (off := k0_off32 i) (by have := (i 2).isLt; rw [off32, Nat.mod_eq_of_lt (a := ((i 2).val - 1) / 8) (by change (i 2).val < 32 at this; omega)]; rfl) (k0_off32_inb i)
    have top0 := load_at arg9.view y9 (size := S1x256x1.size) inb_S2x256x1_S1x256x1_0_0_0 rfl (h.top 0)
    have top1 := load_at arg9.view y9 (size := S1x256x1.size) inb_S2x256x1_S1x256x1_1_0_0 rfl (h.top 1)
    have acc0 := load_at arg10.view y10 (size := S1x256x128.size) inb_S2x256x128_S1x256x128_0_0_0 rfl (h.acc 0)
    have acc1 := load_at arg10.view y10 (size := S1x256x128.size) inb_S2x256x128_S1x256x128_1_0_0 rfl (h.acc 1)
    have tops0 := load_at arg8.view y8 (size := S1x1x256x1.size) (k0_off27_inb i) (off27 i) (h.tops 0)
    have tops1 := load_at arg8.view y8 (size := S1x1x256x1.size) (k0_off30_inb i) (off30 i) (h.tops 1)
    have scores0 := load_at arg7.view y7 (size := S1x1x256x2048.size) (k0_off28_inb i) (off28 i) (h.scores 0)
    have scores1 := load_at arg7.view y7 (size := S1x1x256x2048.size) (k0_off31_inb i) (off31 i) (h.scores 1)
    unfold body.sl.r_6 body.sl.v191 body.sl.v200
    have c0 : arg10.view.readCov (body.sl.H10_2_1 i arg5 harg5 arg7 arg8 arg9 arg10 x2 y7 y8 y9 y10)
        (Rect.unit (s := S2x256x128) ![0, 0, 0] S1x256x128.size inb_S2x256x128_S1x256x128_0_0_0).toLoadRect = acc x0 x1 x2 (i 2) 0 (((i 2).val - 1) / 8 + 1) := by
      unfold body.sl.H10_2_1
      refine (View.readAt_unit _ _ _ rfl inb_S2x256x128_S1x256x128_0_0_0).trans ?_
      refine (under_store _ _ _ _ _ rfl _ 0 (Or.inl (by show 0 + 1 ≤ 1; omega))).trans ?_
      refine (last_store _ _ _ _ _ rfl _).trans ?_
      rw [acc_last, top0, tops0, scores0, acc0, v0]; rfl
    have c1 : arg10.view.readCov (body.sl.H10_2_1 i arg5 harg5 arg7 arg8 arg9 arg10 x2 y7 y8 y9 y10)
        (Rect.unit (s := S2x256x128) ![1, 0, 0] S1x256x128.size inb_S2x256x128_S1x256x128_1_0_0).toLoadRect = acc x0 x1 x2 (i 2) 1 (((i 2).val - 1) / 8 + 1) := by
      unfold body.sl.H10_2_1 body.sl.r_5 body.sl.v159 body.sl.v174
      refine (View.readAt_unit _ _ _ rfl inb_S2x256x128_S1x256x128_1_0_0).trans ?_
      refine (last_store _ _ _ _ _ rfl _).trans ?_
      rw [acc_last_second, top1, tops1, scores1, acc1, v1]; rfl
    rw [c0]
    refine (congrArg (fun w => View.read (Elt F) arg6.view (arg6.view.writes (Elt F) f6 [⟨Rect.unit (s := S1x256x128) ![0, 0, 0] S1x256x128.size inb_S1x256x128_S1x256x128_0_0_0,
      k0_pay1 lanes (k0_pay60 (acc x0 x1 x2 (i 2) 0 (((i 2).val - 1) / 8 + 1))) (acc x0 x1 x2 (i 2) 0 (((i 2).val - 1) / 8 + 1)) w w⟩])) c1).trans ?_
    exact View.read_writes_full _ _ _ _ _
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  iexists _; iexists _; isplitr; swap; · iexact H10
  ipureintro; rfl

end Cert.Attn
-- ==== Proof.Attn.Launch.lean ====
/-
  The attention kernel's run as the ideal reading has it: every run ends, the arguments are untouched, the counters are back
  at zero, and each point's block of the output is the walk's.
-/
module

public import proofs.«01_k».proof.Proof.Attn.Body
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The block a point leaves. -/
def blockOut (c : Dev nD) (t : Fin cfg0.N) : Vec F S1x256x128 .bf16 :=
  outBlock (iblk m c 0 t) (iblk m c 1 t) (iblk m c 2 t) (grid0.coords t 2)

/-- What the pipeline is proved with: the inputs' blocks stay, the output's is the walk's, the scratch is at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem kept0 (c : Dev nD) (t : Fin cfg0.N) : (dats m 0 c).after 0 t = iblk m c 0 t := by dsimp only [dats]
theorem kept1 (c : Dev nD) (t : Fin cfg0.N) : (dats m 0 c).after 1 t = iblk m c 1 t := by dsimp only [dats]
theorem kept2 (c : Dev nD) (t : Fin cfg0.N) : (dats m 0 c).after 2 t = iblk m c 2 t := by dsimp only [dats]
theorem left3 (c : Dev nD) (t : Fin cfg0.N) : (dats m 0 c).after 3 t = blockOut m c t := by dsimp only [dats]

theorem found0 (c : Dev nD) (t : Fin cfg0.N) (d) : (dats m 0 c).before 0 t d = iblk m c 0 t :=
  before0_0_of m (dats m 0 c) (A_eq m c 0) (kept0 m c) t d
theorem found1 (c : Dev nD) (t : Fin cfg0.N) (d) : (dats m 0 c).before 1 t d = iblk m c 1 t :=
  before0_1_of m (dats m 0 c) (A_eq m c 1) (kept1 m c) t d
theorem found2 (c : Dev nD) (t : Fin cfg0.N) (d) : (dats m 0 c).before 2 t d = iblk m c 2 t :=
  before0_2_of m (dats m 0 c) (A_eq m c 2) (kept2 m c) t d

/-- Between points: the four scratch buffers at some contents, and the generator at some state. -/
theorem rest_eq (c : Dev nD) :
    (Pipeline.ΦA spec0 c : sProp (Res F))
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d))
        ∗ (∃ r, prngReg c r)) := by
  unfold Pipeline.ΦA; rw [scopedRest0_eq]; simp only [owns_whole]; try rfl

/-- What the body is called with at a point. -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it gives back. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 4000000 in
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2]
  rw [show (dats m 0 c).owesAt () t.succ = (dats m 0 c).owesAt () t.castSucc from rfl, kept0, kept1, kept2, left3,
    show (dats m 0 c).Φ t.castSucc = Pipeline.ΦA spec0 c from rfl, show (dats m 0 c).Φ t.succ = Pipeline.ΦA spec0 c from rfl, rest_eq]
  iintro ⟨⟨⟨S0, S1, S2, S3⟩, Hg⟩, Ho, ⟨%d0, H0⟩, ⟨%d1, H1⟩, ⟨%d2, H2⟩, ⟨%d3, H3⟩⟩
  iapply (body c (grid0.coords t) _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  unfold Loose
  isplitl [H3]; · iexists _; iexact H3
  isplitl [S0 S1 S2 S3]
  · isplitl [S0]; · iexact S0
    isplitl [S1]; · iexact S1
    isplitl [S2]; · iexact S2
    iexact S3
  iintro ⟨H0, H1, H2, H3, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  iexact H3

/-- The body the table names at a point's slots. -/
theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_sound m c t) rfl .rfl fun _ => .rfl

/-! ## The run -/

set_option backward.isDefEq.respectTransparency.types false in
theorem ends : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun _ => .rfl) (hout := fun _ => .rfl)

/-- The run, with what it leaves in every array. -/
theorem run_frame : θ_run defs (onTc (τ := τ) (main (F := F))) (s₀ m ρ) (Pipeline.FramePost cfgs (dats m) 0 (V m)) :=
  (θ_run defs _ _).mono (fun _ h => h.1) (ends m ρ)

/-- Every run ends with the arguments untouched and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_frame m ρ)) ((θ_run defs _ _).mono (fun _ h => h.2) (ends m ρ))

end Cert.Attn
-- ==== Proof.Attn.HostQ.lean ====
/-
  What the host lays out for the attention's kernel, at an index: the queries of each head in 128 lanes.
-/
module

public import proofs.«01_k».proof.Proof.Attn.Launch
public import proofs.«01_k».proof.Proof.Attn.Literals
public import Idealize.ShloMosaic.Lib.Pipeline.ValueKit

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem concat4 {α : Type} {t s0 s1 s2 s3 : Shape} {a : Fin t.rank} {x0 y0 : s0.Idx → α} {x1 y1 : s1.Idx → α} {x2 y2 : s2.Idx → α} {x3 y3 : s3.Idx → α} {h}
    (h0 : x0 = y0) (h1 : x1 = y1) (h2 : x2 = y2) (h3 : x3 = y3) : concatenate t a [⟨s0, x0⟩, ⟨s1, x1⟩, ⟨s2, x2⟩, ⟨s3, x3⟩] h =
      concatenate t a [⟨s0, y0⟩, ⟨s1, y1⟩, ⟨s2, y2⟩, ⟨s3, y3⟩] (by subst h0 h1 h2 h3; exact h) := by
  subst h0 h1 h2 h3; rfl

def p46 (c : Dev nD) : FVec Ideal S4x6x8192x64 .f32 := V m c main_v46
def p49 (c : Dev nD) : FVec Ideal S4x6x8192x32 .f32 := V m c main_v49
def p47 (c : Dev nD) : FVec Ideal S4x6x8192x3 .f32 := V m c main_v47
def p48 (c : Dev nD) : FVec Ideal S4x6x8192x29 .f32 := V m c main_v48

set_option maxHeartbeats 2000000 in
theorem v65_eq (c : Dev nD) : V m c main_v65 = truncf .bf16 (concatenate S4x6x8192x128 3
    [⟨S4x6x8192x64, p46 m c⟩, ⟨S4x6x8192x32, p49 m c⟩, ⟨S4x6x8192x3, p47 m c⟩, ⟨S4x6x8192x29, p48 m c⟩] concatenates_S4x6x8192x64_S4x6x8192x32_S4x6x8192x3_S4x6x8192x29_S4x6x8192x128_d3) bitsLt_bf16_f32 := by
  unfold p46 p49 p47 p48
  simp only [V, hostOps0, hostOps0_1, hostOps0_2, hostOps0_3, hostOps0_4, hostOps0_5, hostOps0_6, List.flatten_cons, List.flatten_nil, List.append_nil, List.cons_append, List.nil_append]
  after_results
  refine congrArg (fun a => truncf .bf16 a bitsLt_bf16_f32) (concat4 ?_ ?_ ?_ ?_)
  · change (_ : Valuation τ sig (Elt Ideal)) (Proc.tc.devRef main_v46) = _
    simp only [↓ StableHlo.readResult, ↓ StableHlo.readPieces, -eq_self]
    first | with_reducible rfl | rfl
  · change (_ : Valuation τ sig (Elt Ideal)) (Proc.tc.devRef main_v49) = _
    simp only [↓ StableHlo.readResult, ↓ StableHlo.readPieces, -eq_self]
    first | with_reducible rfl | rfl
  · change (_ : Valuation τ sig (Elt Ideal)) (Proc.tc.devRef main_v47) = _
    simp only [↓ StableHlo.readResult, ↓ StableHlo.readPieces, -eq_self]
    first | with_reducible rfl | rfl
  · change (_ : Valuation τ sig (Elt Ideal)) (Proc.tc.devRef main_v48) = _
    simp only [↓ StableHlo.readResult, ↓ StableHlo.readPieces, -eq_self]
    first | with_reducible rfl | rfl

/-- The queries as given. -/
abbrev argQ (c : Dev nD) : FVec Ideal S4x8192x384 .f32 := m (c, Proc.tc.devRef main_arg0)

set_option maxHeartbeats 2000000 in
theorem p46_at (c : Dev nD) (b : Fin 4) (h : Fin 6) (t : Fin 8192) (x : Fin 64) : p46 m c (ix4 b h t x) = argQ m c (ix3 b t ⟨h.val * 64 + x.val, by omega⟩) * (((1 / 8 : ℝ) : EReal) * (octave : EReal)) := by
  unfold p46
  simp only [V, hostOps0, hostOps0_1, hostOps0_2, hostOps0_3, hostOps0_4, hostOps0_5, hostOps0_6, List.flatten_cons, List.flatten_nil, List.append_nil, List.cons_append, List.nil_append]
  after_results
  pointwise
  rw [lit_eighth, lit_octave]

theorem and_word (w : BitVec 32) {x y : ℕ} (hx : x < 8192) (hy : y < 8192) (p n : EReal) [Decidable (w ≠ 0#32 ∧ x < y)] :
    Scalar.select (IntOp.andi (IntOp.cmpi CmpIPredicate.ne w 0#32) (IntOp.cmpi CmpIPredicate.slt (BitVec.ofNat 32 x) (BitVec.ofNat 32 y))) p n
      = if w ≠ 0#32 ∧ x < y then p else n := by
  have hi : (IntOp.andi (IntOp.cmpi CmpIPredicate.ne w 0#32) (IntOp.cmpi CmpIPredicate.slt (BitVec.ofNat 32 x) (BitVec.ofNat 32 y)) = (1 : BitVec 1))
      ↔ (w ≠ 0#32 ∧ x < y) := by
    show (BitVec.ofBool (w != 0#32) &&& BitVec.ofBool ((BitVec.ofNat 32 x).slt (BitVec.ofNat 32 y)) = (1 : BitVec 1)) ↔ _
    rw [word_slt hx hy]
    by_cases h : w = 0#32
    · simp [h]
    · have hw : (w == 0#32) = false := beq_eq_false_iff_ne.mpr h
      by_cases h' : x < y <;> simp [h, h', hw, bne]
  by_cases hc : w ≠ 0#32 ∧ x < y
  · rw [if_pos hc]; exact if_pos (hi.mpr hc)
  · rw [if_neg hc]; exact if_neg fun h => hc (hi.mp h)

set_option maxHeartbeats 2000000 in
theorem p49_at (c : Dev nD) (b : Fin 4) (h : Fin 6) (t : Fin 8192) (x : Fin 32) : p49 m c (ix4 b h t x) = open Classical in if m (c, Proc.tc.devRef main_arg3) (ix4 b t h x) ≠ 0#32 ∧ x.val < t.val / 256 then 0 else ⊥ := by
  unfold p49
  simp only [V, hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_eq, id_eq]
  pointwise
  rw [lit_bot]
  refine Eq.trans ?_ (and_word _ (x := x.val) (y := t.val / 256) (by omega) (by omega) _ _)
  rw [← floorBlock_eq t]
  rfl

set_option maxHeartbeats 2000000 in
theorem p47_at (c : Dev nD) (z : S4x6x8192x3.Idx) : p47 m c z = 1 := by
  unfold p47
  simp only [V, hostOps0, hostOps0_1, hostOps0_2, hostOps0_3, hostOps0_4, hostOps0_5, hostOps0_6, List.flatten_cons, List.flatten_nil, List.append_nil, List.cons_append, List.nil_append]
  after_results
  pointwise

/-- The head's 64 lanes, scaled. -/
theorem q_low (c : Dev nD) (b : Fin 4) (h : Fin 6) (t : Fin 8192) (x : Fin 128) (hx : x.val < 64) :
    V m c main_v65 (ix4 b h t x) = argQ m c (ix3 b t ⟨h.val * 64 + x.val, by omega⟩) * (((1 / 8 : ℝ) : EReal) * (octave : EReal)) := by
  rw [v65_eq]
  pointwise
  rw [dif_pos hx]
  exact p46_at m c b h t ⟨x.val, hx⟩

/-- The 32 lanes of the picked blocks. -/
theorem q_bias (c : Dev nD) (b : Fin 4) (h : Fin 6) (t : Fin 8192) (x : Fin 32) :
    V m c main_v65 (ix4 b h t ⟨64 + x.val, by omega⟩) =
      (open Classical in if m (c, Proc.tc.devRef main_arg3) (ix4 b t h x) ≠ 0#32 ∧ x.val < t.val / 256 then (0 : EReal) else ⊥) := by
  rw [v65_eq]
  pointwise
  exact p49_at m c b h t x

/-- A lane of ones. -/
theorem q_one (c : Dev nD) (b : Fin 4) (h : Fin 6) (t : Fin 8192) : V m c main_v65 (ix4 b h t 96) = (1 : EReal) := by
  rw [v65_eq]
  pointwise
  exact p47_at m c _

end Cert.Attn

end
-- ==== Proof.Attn.HostK.lean ====
/-
  What the host lays out for the attention's kernel, at an index: the keys of each head in 128 lanes.
-/
module

public import proofs.«01_k».proof.Proof.Attn.Launch
public import proofs.«01_k».proof.Proof.Attn.Literals
public import Idealize.ShloMosaic.Lib.Pipeline.ValueKit

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem concat6 {α : Type} {t s0 s1 s2 s3 s4 s5 : Shape} {a : Fin t.rank} {x0 y0 : s0.Idx → α} {x1 y1 : s1.Idx → α} {x2 y2 : s2.Idx → α} {x3 y3 : s3.Idx → α} {x4 y4 : s4.Idx → α} {x5 y5 : s5.Idx → α} {h}
    (h0 : x0 = y0) (h1 : x1 = y1) (h2 : x2 = y2) (h3 : x3 = y3) (h4 : x4 = y4) (h5 : x5 = y5) : concatenate t a [⟨s0, x0⟩, ⟨s1, x1⟩, ⟨s2, x2⟩, ⟨s3, x3⟩, ⟨s4, x4⟩, ⟨s5, x5⟩] h =
      concatenate t a [⟨s0, y0⟩, ⟨s1, y1⟩, ⟨s2, y2⟩, ⟨s3, y3⟩, ⟨s4, y4⟩, ⟨s5, y5⟩] (by subst h0 h1 h2 h3 h4 h5; exact h) := by
  subst h0 h1 h2 h3 h4 h5; rfl

def p52 (c : Dev nD) : FVec Ideal S4x6x8192x64 .f32 := V m c main_v52
def p58 (c : Dev nD) : FVec Ideal S4x6x8192x32 .f32 := V m c main_v58
def p54 (c : Dev nD) : FVec Ideal S4x6x8192x1 .f32 := V m c main_v54
def p55 (c : Dev nD) : FVec Ideal S4x6x8192x1 .f32 := V m c main_v55
def p56 (c : Dev nD) : FVec Ideal S4x6x8192x1 .f32 := V m c main_v56
def p57 (c : Dev nD) : FVec Ideal S4x6x8192x29 .f32 := V m c main_v57

set_option maxHeartbeats 2000000 in
theorem v66_eq (c : Dev nD) : V m c main_v66 = truncf .bf16 (concatenate S4x6x8192x128 3
    [⟨S4x6x8192x64, p52 m c⟩, ⟨S4x6x8192x32, p58 m c⟩, ⟨S4x6x8192x1, p54 m c⟩, ⟨S4x6x8192x1, p55 m c⟩, ⟨S4x6x8192x1, p56 m c⟩, ⟨S4x6x8192x29, p57 m c⟩] concatenates_S4x6x8192x64_S4x6x8192x32_S4x6x8192x1_S4x6x8192x1_S4x6x8192x1_S4x6x8192x29_S4x6x8192x128_d3) bitsLt_bf16_f32 := by
  unfold p52 p58 p54 p55 p56 p57
  simp only [V, hostOps0, hostOps0_1, hostOps0_2, hostOps0_3, hostOps0_4, hostOps0_5, hostOps0_6, List.flatten_cons, List.flatten_nil, List.append_nil, List.cons_append, List.nil_append]
  after_results
  refine congrArg (fun a => truncf .bf16 a bitsLt_bf16_f32) (concat6 ?_ ?_ ?_ ?_ ?_ ?_)
  · change (_ : Valuation τ sig (Elt Ideal)) (Proc.tc.devRef main_v52) = _
    simp only [↓ StableHlo.readResult, ↓ StableHlo.readPieces, -eq_self]
    first | with_reducible rfl | rfl
  · change (_ : Valuation τ sig (Elt Ideal)) (Proc.tc.devRef main_v58) = _
    simp only [↓ StableHlo.readResult, ↓ StableHlo.readPieces, -eq_self]
    first | with_reducible rfl | rfl
  · change (_ : Valuation τ sig (Elt Ideal)) (Proc.tc.devRef main_v54) = _
    simp only [↓ StableHlo.readResult, ↓ StableHlo.readPieces, -eq_self]
    first | with_reducible rfl | rfl
  · change (_ : Valuation τ sig (Elt Ideal)) (Proc.tc.devRef main_v55) = _
    simp only [↓ StableHlo.readResult, ↓ StableHlo.readPieces, -eq_self]
    first | with_reducible rfl | rfl
  · change (_ : Valuation τ sig (Elt Ideal)) (Proc.tc.devRef main_v56) = _
    simp only [↓ StableHlo.readResult, ↓ StableHlo.readPieces, -eq_self]
    first | with_reducible rfl | rfl
  · change (_ : Valuation τ sig (Elt Ideal)) (Proc.tc.devRef main_v57) = _
    simp only [↓ StableHlo.readResult, ↓ StableHlo.readPieces, -eq_self]
    first | with_reducible rfl | rfl

set_option maxHeartbeats 2000000 in
theorem p52_at (c : Dev nD) (b : Fin 4) (h : Fin 6) (t : Fin 8192) (x : Fin 64) : p52 m c (ix4 b h t x) = m (c, Proc.tc.devRef main_arg1) (ix3 b t ⟨h.val * 64 + x.val, by omega⟩) := by
  unfold p52
  simp only [V, hostOps0, hostOps0_1, hostOps0_2, hostOps0_3, hostOps0_4, hostOps0_5, hostOps0_6, List.flatten_cons, List.flatten_nil, List.append_nil, List.cons_append, List.nil_append]
  after_results
  pointwise

theorem eq_word {x y : ℕ} (hx : x < 8192) (hy : y < 8192) (p n : EReal) :
    Scalar.select (IntOp.cmpi CmpIPredicate.eq (BitVec.ofNat 32 x) (BitVec.ofNat 32 y)) p n = if x = y then p else n := by
  show (if BitVec.ofBool (BitVec.ofNat 32 x == BitVec.ofNat 32 y) = (1 : BitVec 1) then p else n) = _
  by_cases h : x = y
  · rw [if_pos h, h]; simp
  · have h' : BitVec.ofNat 32 x ≠ BitVec.ofNat 32 y := fun e => h ((word_inj hx hy).mp e)
    rw [if_neg h, beq_eq_false_iff_ne.mpr h']; rfl

set_option maxHeartbeats 2000000 in
theorem p58_at (c : Dev nD) (b : Fin 4) (h : Fin 6) (t : Fin 8192) (x : Fin 32) : p58 m c (ix4 b h t x) = if x.val = t.val / 256 then 1 else 0 := by
  unfold p58
  simp only [V, hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_eq, id_eq]
  pointwise
  refine Eq.trans ?_ (eq_word (x := x.val) (y := t.val / 256) (by omega) (by omega) _ _)
  rw [← floorBlock_eq t]
  rfl

set_option maxHeartbeats 2000000 in
theorem p54_at (c : Dev nD) (b : Fin 4) (h : Fin 6) (t : Fin 8192) (s : ℝ) (hs : slopeOf h.val = (s : EReal)) (x : Fin 1) : p54 m c (ix4 b h t x) = ((s * octave * t.val : ℝ) : EReal) := by
  unfold p54
  simp only [V, hostOps0, hostOps0_1, hostOps0_2, hostOps0_3, hostOps0_4, hostOps0_5, hostOps0_6, List.flatten_cons, List.flatten_nil, List.append_nil, List.cons_append, List.nil_append]
  after_results
  pointwise
  rw [lit_octave, real_word _ t.isLt, EReal.coe_mul, EReal.coe_mul, ← hs]
  rfl

set_option maxHeartbeats 2000000 in
theorem p55_at (c : Dev nD) (b : Fin 4) (h : Fin 6) (t : Fin 8192) (s : ℝ) (hs : slopeOf h.val = (s : EReal)) (x : Fin 1) : p55 m c (ix4 b h t x) = 0 := by
  unfold p55
  simp only [V, hostOps0, hostOps0_1, hostOps0_2, hostOps0_3, hostOps0_4, hostOps0_5, hostOps0_6, List.flatten_cons, List.flatten_nil, List.append_nil, List.cons_append, List.nil_append]
  after_results
  pointwise
  rw [lit_octave, real_word _ t.isLt]
  show slopeOf h.val * (octave : EReal) * ((t.val : ℝ) : EReal) - slopeOf h.val * (octave : EReal) * ((t.val : ℝ) : EReal) = 0
  rw [hs, ← EReal.coe_mul, ← EReal.coe_mul, ← EReal.coe_sub, sub_self, EReal.coe_zero]

set_option maxHeartbeats 2000000 in
theorem p56_at (c : Dev nD) (b : Fin 4) (h : Fin 6) (t : Fin 8192) (s : ℝ) (hs : slopeOf h.val = (s : EReal)) (x : Fin 1) : p56 m c (ix4 b h t x) = 0 := by
  unfold p56
  simp only [V, hostOps0, hostOps0_1, hostOps0_2, hostOps0_3, hostOps0_4, hostOps0_5, hostOps0_6, List.flatten_cons, List.flatten_nil, List.append_nil, List.cons_append, List.nil_append]
  after_results
  pointwise
  rw [lit_octave, real_word _ t.isLt]
  show slopeOf h.val * (octave : EReal) * ((t.val : ℝ) : EReal) - slopeOf h.val * (octave : EReal) * ((t.val : ℝ) : EReal)
    - (slopeOf h.val * (octave : EReal) * ((t.val : ℝ) : EReal) - slopeOf h.val * (octave : EReal) * ((t.val : ℝ) : EReal)) = 0
  rw [hs, ← EReal.coe_mul, ← EReal.coe_mul, ← EReal.coe_sub, sub_self, ← EReal.coe_sub, sub_self, EReal.coe_zero]

set_option maxHeartbeats 2000000 in
theorem p57_at (c : Dev nD) (z : S4x6x8192x29.Idx) : p57 m c z = 0 := by
  unfold p57
  simp only [V, hostOps0, hostOps0_1, hostOps0_2, hostOps0_3, hostOps0_4, hostOps0_5, hostOps0_6, List.flatten_cons, List.flatten_nil, List.append_nil, List.cons_append, List.nil_append]
  after_results
  pointwise

/-- The head's 64 lanes. -/
theorem k_low (c : Dev nD) (b : Fin 4) (h : Fin 6) (t : Fin 8192) (x : Fin 128) (hx : x.val < 64) :
    V m c main_v66 (ix4 b h t x) = m (c, Proc.tc.devRef main_arg1) (ix3 b t ⟨h.val * 64 + x.val, by omega⟩) := by
  rw [v66_eq]
  pointwise
  rw [dif_pos hx]
  exact p52_at m c b h t ⟨x.val, hx⟩

/-- The 32 lanes that name the key's block. -/
theorem k_block (c : Dev nD) (b : Fin 4) (h : Fin 6) (t : Fin 8192) (x : Fin 32) :
    V m c main_v66 (ix4 b h t ⟨64 + x.val, by omega⟩) = if x.val = t.val / 256 then (1 : EReal) else 0 := by
  rw [v66_eq]
  pointwise
  exact p58_at m c b h t x

/-- The lane of the slope. -/
theorem k_slope (c : Dev nD) (b : Fin 4) (h : Fin 6) (t : Fin 8192) (s : ℝ) (hs : slopeOf h.val = (s : EReal)) : V m c main_v66 (ix4 b h t 96) = ((s * octave * t.val : ℝ) : EReal) := by
  rw [v66_eq]
  pointwise
  exact p54_at m c b h t s hs _

/-- The other lanes. -/
theorem k_zero (c : Dev nD) (b : Fin 4) (h : Fin 6) (t : Fin 8192) (s : ℝ) (hs : slopeOf h.val = (s : EReal)) (x : Fin 128) (hx : 97 ≤ x.val) : V m c main_v66 (ix4 b h t x) = (0 : EReal) := by
  rw [v66_eq]
  pointwise
  rw [dif_neg (by omega), dif_neg (by omega), dif_neg (by omega)]
  by_cases h1 : x.val = 97
  · rw [dif_pos (by omega)]
    exact p55_at m c b h t s hs _
  · rw [dif_neg (by omega)]
    by_cases h2 : x.val = 98
    · rw [dif_pos (by omega)]
      exact p56_at m c b h t s hs _
    · rw [dif_neg (by omega)]
      exact p57_at m c _

end Cert.Attn

end
-- ==== Proof.Attn.HostV.lean ====
/-
  What the host lays out for the attention's kernel, at an index: the values of each head in 128 lanes.
-/
module

public import proofs.«01_k».proof.Proof.Attn.Launch
public import proofs.«01_k».proof.Proof.Attn.Literals
public import Idealize.ShloMosaic.Lib.Pipeline.ValueKit

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem concat3 {α : Type} {t s0 s1 s2 : Shape} {a : Fin t.rank} {x0 y0 : s0.Idx → α} {x1 y1 : s1.Idx → α} {x2 y2 : s2.Idx → α} {h}
    (h0 : x0 = y0) (h1 : x1 = y1) (h2 : x2 = y2) : concatenate t a [⟨s0, x0⟩, ⟨s1, x1⟩, ⟨s2, x2⟩] h =
      concatenate t a [⟨s0, y0⟩, ⟨s1, y1⟩, ⟨s2, y2⟩] (by subst h0 h1 h2; exact h) := by
  subst h0 h1 h2; rfl

def p61 (c : Dev nD) : FVec Ideal S4x6x8192x64 .f32 := V m c main_v61
def p62 (c : Dev nD) : FVec Ideal S4x6x8192x1 .f32 := V m c main_v62
def p63 (c : Dev nD) : FVec Ideal S4x6x8192x63 .f32 := V m c main_v63

set_option maxHeartbeats 2000000 in
theorem v67_eq (c : Dev nD) : V m c main_v67 = truncf .bf16 (concatenate S4x6x8192x128 3
    [⟨S4x6x8192x64, p61 m c⟩, ⟨S4x6x8192x1, p62 m c⟩, ⟨S4x6x8192x63, p63 m c⟩] concatenates_S4x6x8192x64_S4x6x8192x1_S4x6x8192x63_S4x6x8192x128_d3) bitsLt_bf16_f32 := by
  unfold p61 p62 p63
  simp only [V, hostOps0, hostOps0_1, hostOps0_2, hostOps0_3, hostOps0_4, hostOps0_5, hostOps0_6, List.flatten_cons, List.flatten_nil, List.append_nil, List.cons_append, List.nil_append]
  after_results
  refine congrArg (fun a => truncf .bf16 a bitsLt_bf16_f32) (concat3 ?_ ?_ ?_)
  · change (_ : Valuation τ sig (Elt Ideal)) (Proc.tc.devRef main_v61) = _
    simp only [↓ StableHlo.readResult, ↓ StableHlo.readPieces, -eq_self]
    first | with_reducible rfl | rfl
  · change (_ : Valuation τ sig (Elt Ideal)) (Proc.tc.devRef main_v62) = _
    simp only [↓ StableHlo.readResult, ↓ StableHlo.readPieces, -eq_self]
    first | with_reducible rfl | rfl
  · change (_ : Valuation τ sig (Elt Ideal)) (Proc.tc.devRef main_v63) = _
    simp only [↓ StableHlo.readResult, ↓ StableHlo.readPieces, -eq_self]
    first | with_reducible rfl | rfl

set_option maxHeartbeats 2000000 in
theorem p61_at (c : Dev nD) (b : Fin 4) (h : Fin 6) (t : Fin 8192) (x : Fin 64) : p61 m c (ix4 b h t x) = m (c, Proc.tc.devRef main_arg2) (ix3 b t ⟨h.val * 64 + x.val, by omega⟩) := by
  unfold p61
  simp only [V, hostOps0, hostOps0_1, hostOps0_2, hostOps0_3, hostOps0_4, hostOps0_5, hostOps0_6, List.flatten_cons, List.flatten_nil, List.append_nil, List.cons_append, List.nil_append]
  after_results
  pointwise

set_option maxHeartbeats 2000000 in
theorem p62_at (c : Dev nD) (z : S4x6x8192x1.Idx) : p62 m c z = 1 := by
  unfold p62
  simp only [V, hostOps0, hostOps0_1, hostOps0_2, hostOps0_3, hostOps0_4, hostOps0_5, hostOps0_6, List.flatten_cons, List.flatten_nil, List.append_nil, List.cons_append, List.nil_append]
  after_results
  pointwise

/-- The head's 64 values. -/
theorem v_low (c : Dev nD) (b : Fin 4) (h : Fin 6) (t : Fin 8192) (x : Fin 128) (hx : x.val < 64) :
    V m c main_v67 (ix4 b h t x) = m (c, Proc.tc.devRef main_arg2) (ix3 b t ⟨h.val * 64 + x.val, by omega⟩) := by
  rw [v67_eq]
  pointwise
  rw [dif_pos hx]
  exact p61_at m c b h t ⟨x.val, hx⟩

/-- The lane of ones. -/
theorem v_one (c : Dev nD) (b : Fin 4) (h : Fin 6) (t : Fin 8192) : V m c main_v67 (ix4 b h t 64) = (1 : EReal) := by
  rw [v67_eq]
  pointwise
  exact p62_at m c _

end Cert.Attn

end
-- ==== Proof.Attn.Ref.lean ====
/- The attention's reference, cut into named steps, and each step at an index. -/
module

public import proofs.«01_k».proof.Proof.Gen.ReferenceIdeal
public import proofs.«01_k».proof.Proof.Gen.ReferenceIdeal.Run
public import proofs.«01_k».proof.Proof.Attn.Literals
public import Idealize.ShloMosaic.Lib.Pipeline.ValueKit

@[expose] public section

set_option maxRecDepth 16384

noncomputable section

namespace Cert.AttnRef

open Idealize.ShloMosaic Idealize.ShloMosaic.TcCoe Idealize.SL.Sem
open Cert.ReferenceIdeal Cert.ReferenceIdeal.Gen

/-- The block of 256 that a query is in. -/
def rowBlock : IVec S8192x8192 32 :=
  select (andi (cmpi .ne (signi (iotaInDim S8192x8192 32 0)) (broadcastInDim S8192x8192 ![] bcast_S_S8192x8192 (signi (id (constantI S_ 32 256#32))))) (cmpi .ne (Host.remsi (iotaInDim S8192x8192 32 0) (broadcastInDim S8192x8192 ![] bcast_S_S8192x8192 (id (constantI S_ 32 256#32)))) (broadcastInDim S8192x8192 ![] bcast_S_S8192x8192 (constantI S_ 32 0#32)))) (subi (Host.divsi (iotaInDim S8192x8192 32 0) (broadcastInDim S8192x8192 ![] bcast_S_S8192x8192 (id (constantI S_ 32 256#32)))) (broadcastInDim S8192x8192 ![] bcast_S_S8192x8192 (constantI S_ 32 1#32))) (Host.divsi (iotaInDim S8192x8192 32 0) (broadcastInDim S8192x8192 ![] bcast_S_S8192x8192 (id (constantI S_ 32 256#32))))

/-- The block of 256 that a key is in. -/
def keyBlock : IVec S8192x8192 32 :=
  select (andi (cmpi .ne (signi (iotaInDim S8192x8192 32 1)) (broadcastInDim S8192x8192 ![] bcast_S_S8192x8192 (signi (id (constantI S_ 32 256#32))))) (cmpi .ne (Host.remsi (iotaInDim S8192x8192 32 1) (broadcastInDim S8192x8192 ![] bcast_S_S8192x8192 (id (constantI S_ 32 256#32)))) (broadcastInDim S8192x8192 ![] bcast_S_S8192x8192 (constantI S_ 32 0#32)))) (subi (Host.divsi (iotaInDim S8192x8192 32 1) (broadcastInDim S8192x8192 ![] bcast_S_S8192x8192 (id (constantI S_ 32 256#32)))) (broadcastInDim S8192x8192 ![] bcast_S_S8192x8192 (constantI S_ 32 1#32))) (Host.divsi (iotaInDim S8192x8192 32 1) (broadcastInDim S8192x8192 ![] bcast_S_S8192x8192 (id (constantI S_ 32 256#32))))

/-- The keys a query attends to: its own block's up to itself, and the earlier blocks it picked. -/
def seen (P : IVec S4x8192x6x32 32) : IVec S4x6x8192x8192 1 :=
  ori (broadcastInDim S4x6x8192x8192 ![0, 1, 2, 3] bcast_S1x1x8192x8192_S4x6x8192x8192_0_1_2_3 (broadcastInDim S1x1x8192x8192 ![2, 3] bcast_S8192x8192_S1x1x8192x8192_2_3 (andi (cmpi .eq rowBlock keyBlock) (cmpi .sle (iotaInDim S8192x8192 32 1) (iotaInDim S8192x8192 32 0))))) (andi (cmpi .ne (shapeCast _ (broadcastInDim S4x6x8192x32x256 ![0, 1, 2, 3] bcast_S4x6x8192x32_S4x6x8192x32x256_0_1_2_3 (transpose S4x6x8192x32 [0, 2, 1, 3] P transposes_S4x8192x6x32_S4x6x8192x32_0_2_1_3)) shapeCasts_S4x6x8192x32x256_S4x6x8192x8192) (broadcastInDim S4x6x8192x8192 ![] bcast_S_S4x6x8192x8192 (constantI S_ 32 0#32))) (broadcastInDim S4x6x8192x8192 ![0, 1, 2, 3] bcast_S1x1x8192x8192_S4x6x8192x8192_0_1_2_3 (broadcastInDim S1x1x8192x8192 ![2, 3] bcast_S8192x8192_S1x1x8192x8192_2_3 (cmpi .slt keyBlock rowBlock))))

/-- The heads' slopes. -/
def slopes : FVec Ideal S6 .f32 :=
  Host.exp (mulf (broadcastInDim S6 ![] bcast_S_S6 (constant S_ .f32 0x3F317218#32)) (Host.divf (mulf (broadcastInDim S6 ![] bcast_S_S6 (constant S_ .f32 0xC1000000#32)) (addf (broadcastInDim S6 ![] bcast_S_S6 (constant S_ .f32 0x3F800000#32)) (sitofp .f32 (iotaInDim S6 32 0)))) (broadcastInDim S6 ![] bcast_S_S6 (constant S_ .f32 0x40C00000#32))))

/-- The scores, minus infinity where the key is not seen. -/
def masked (Q K : FVec Ideal S4x8192x384 .f32) (P : IVec S4x8192x6x32 32) : FVec Ideal S4x6x8192x8192 .f32 :=
  select (seen P) (subf (mulf (Host.dotGeneral dot_S4x8192x6x64_S4x8192x6x64_S4x6x8192x8192_3_3_1_1_02_02 none (shapeCast _ Q shapeCasts_S4x8192x384_S4x8192x6x64) (shapeCast _ K shapeCasts_S4x8192x384_S4x8192x6x64)) (broadcastInDim S4x6x8192x8192 ![] bcast_S_S4x6x8192x8192 (constant S_ .f32 0x3E000000#32))) (broadcastInDim S4x6x8192x8192 ![0, 1, 2, 3] bcast_S1x6x8192x8192_S4x6x8192x8192_0_1_2_3 (broadcastInDim S1x6x8192x8192 ![1, 2, 3] bcast_S6x8192x8192_S1x6x8192x8192_1_2_3 (mulf (broadcastInDim S6x8192x8192 ![0, 1, 2] bcast_S6x1x1_S6x8192x8192_0_1_2 (broadcastInDim S6x1x1 ![0] bcast_S6_S6x1x1_0 slopes)) (broadcastInDim S6x8192x8192 ![0, 1, 2] bcast_S1x8192x8192_S6x8192x8192_0_1_2 (broadcastInDim S1x8192x8192 ![1, 2] bcast_S8192x8192_S1x8192x8192_1_2 (sitofp .f32 (subi (iotaInDim S8192x8192 32 0) (iotaInDim S8192x8192 32 1))))))))) (broadcastInDim S4x6x8192x8192 ![] bcast_S_S4x6x8192x8192 (id (constant S_ .f32 0xFF800000#32)))

/-- Each query's greatest score. -/
def greatest (Q K : FVec Ideal S4x8192x384 .f32) (P : IVec S4x8192x6x32 32) : FVec Ideal S4x6x8192 .f32 :=
  Host.reduce FloatOps.maximumf (masked Q K P) (constant S_ .f32 0xFF800000#32) reducesTo_S4x6x8192x8192_S4x6x8192_d3 h_S_

/-- The exponentials of the scores under the greatest. -/
def expd (Q K : FVec Ideal S4x8192x384 .f32) (P : IVec S4x8192x6x32 32) : FVec Ideal S4x6x8192x8192 .f32 :=
  Host.exp (subf (masked Q K P) (broadcastInDim S4x6x8192x8192 ![0, 1, 2, 3] bcast_S4x6x8192x1_S4x6x8192x8192_0_1_2_3 (broadcastInDim S4x6x8192x1 ![0, 1, 2] bcast_S4x6x8192_S4x6x8192x1_0_1_2 (greatest Q K P))))

/-- The probabilities. -/
def probs (Q K : FVec Ideal S4x8192x384 .f32) (P : IVec S4x8192x6x32 32) : FVec Ideal S4x6x8192x8192 .f32 :=
  mulf (expd Q K P) (broadcastInDim S4x6x8192x8192 ![0, 1, 2, 3] bcast_S4x6x8192x1_S4x6x8192x8192_0_1_2_3 (Host.divf (broadcastInDim S4x6x8192x1 ![] bcast_S_S4x6x8192x1 (constant S_ .f32 0x3F800000#32)) (broadcastInDim S4x6x8192x1 ![0, 1, 2] bcast_S4x6x8192_S4x6x8192x1_0_1_2 (Host.reduceAdd (expd Q K P) (constant S_ .f32 0x00000000#32) reducesTo_S4x6x8192x8192_S4x6x8192_d3 h_S_))))

/-- The attention. -/
def attn (Q K V : FVec Ideal S4x8192x384 .f32) (P : IVec S4x8192x6x32 32) : FVec Ideal S4x8192x384 .bf16 :=
  truncf .bf16 (shapeCast _ (transpose S4x8192x6x64 [0, 3, 1, 2] (Host.dotGeneral dot_S4x8192x6x64_S4x6x8192x8192_S4x6x64x8192_1_3_3_2_02_01 none (shapeCast _ V shapeCasts_S4x8192x384_S4x8192x6x64) (probs Q K P)) transposes_S4x6x64x8192_S4x8192x6x64_0_3_1_2) shapeCasts_S4x8192x6x64_S4x8192x384) bitsLt_bf16_f32

open Cert.Attn

theorem rowBlock_at (z : S8192x8192.Idx) : rowBlock z = BitVec.ofNat 32 ((z 0).val / 256) := by
  refine Eq.trans ?_ (floorBlock_eq ⟨(z 0).val, (z 0).isLt⟩)
  unfold rowBlock
  simp only [id_eq]
  pointwise
  rfl

theorem keyBlock_at (z : S8192x8192.Idx) : keyBlock z = BitVec.ofNat 32 ((z 1).val / 256) := by
  refine Eq.trans ?_ (floorBlock_eq ⟨(z 1).val, (z 1).isLt⟩)
  unfold keyBlock
  simp only [id_eq]
  pointwise
  rfl

open Classical in
theorem seen_at (P : IVec S4x8192x6x32 32) (z : S4x6x8192x8192.Idx) (w : S4x8192x6x32.Idx) (h0 : (w 0).val = (z 0).val) (h1 : (w 1).val = (z 2).val)
    (h2 : (w 2).val = (z 1).val) (h3 : (w 3).val = (z 3).val / 256) (a b : EReal) :
    Scalar.select (seen P z) a b = if Sees (z 2).val (z 3).val (P w ≠ 0#32) then a else b := by
  have e : seen P z = IntOp.ori
      (IntOp.andi (IntOp.cmpi CmpIPredicate.eq (BitVec.ofNat 32 ((z 2).val / 256)) (BitVec.ofNat 32 ((z 3).val / 256)))
        (IntOp.cmpi CmpIPredicate.sle (BitVec.ofNat 32 (z 3).val) (BitVec.ofNat 32 (z 2).val)))
      (IntOp.andi (IntOp.cmpi CmpIPredicate.ne (P w) 0#32)
        (IntOp.cmpi CmpIPredicate.slt (BitVec.ofNat 32 ((z 3).val / 256)) (BitVec.ofNat 32 ((z 2).val / 256)))) := by
    pointwise [seen]
    rw [rowBlock_at, keyBlock_at]
    have hw : ∀ w', (∀ i, (w' i).val = (w i).val) → P w' = P w := fun w' h => congrArg P (funext fun i => Fin.ext (h i))
    congr 3
    refine hw _ fun i => ?_
    fin_cases i
    · exact h0.symm
    · exact h1.symm
    · exact h2.symm
    · exact h3.symm
  have t2 : (z 2).val < 8192 := (z 2).isLt
  have t3 : (z 3).val < 8192 := (z 3).isLt
  rw [e]
  simp only [IntOp.cmpi, word_slt (show (z 3).val / 256 < 8192 by omega) (show (z 2).val / 256 < 8192 by omega), word_sle t3 t2]
  have hb : (BitVec.ofNat 32 ((z 2).val / 256) == BitVec.ofNat 32 ((z 3).val / 256)) = decide ((z 2).val / 256 = (z 3).val / 256) := by
    rw [Bool.eq_iff_iff, beq_iff_eq, word_inj (by omega) (by omega), decide_eq_true_iff]
  have hp : (P w != 0#32) = decide (P w ≠ 0#32) := by
    rw [Bool.eq_iff_iff, bne_iff_ne, decide_eq_true_iff]
  rw [hb, hp]
  have hx : ∀ p q r u : Bool, (IntOp.ori (IntOp.andi (BitVec.ofBool p) (BitVec.ofBool q)) (IntOp.andi (BitVec.ofBool r) (BitVec.ofBool u)) = (1 : BitVec 1)) ↔
      ((p = true ∧ q = true) ∨ (r = true ∧ u = true)) := by decide
  have hi := hx (decide ((z 2).val / 256 = (z 3).val / 256)) (decide ((z 3).val ≤ (z 2).val)) (decide (P w ≠ 0#32)) (decide ((z 3).val / 256 < (z 2).val / 256))
  rw [decide_eq_true_iff, decide_eq_true_iff, decide_eq_true_iff, decide_eq_true_iff] at hi
  by_cases hc : Sees (z 2).val (z 3).val (P w ≠ 0#32)
  · rw [if_pos hc]; exact if_pos (hi.mpr hc)
  · rw [if_neg hc]; exact if_neg fun h => hc (hi.mp h)

/-- Head `h`'s 64 of a row. -/
def headOf (X : FVec Ideal S4x8192x384 .f32) (b : Fin 4) (h : Fin 6) (t : Fin 8192) (x : Fin 64) : EReal :=
  X (ix3 b t ⟨h.val * 64 + x.val, by omega⟩)

open Classical in
/-- The reference's score, minus infinity where the key is not seen. -/
def ref (Q K : FVec Ideal S4x8192x384 .f32) (P : IVec S4x8192x6x32 32) (s : ℝ) (b : Fin 4) (h : Fin 6) (t l : Fin 8192) : EReal :=
  if Sees t.val l.val (P (ix4 b t h ⟨l.val / 256, by omega⟩) ≠ 0#32) then score (headOf Q b h t) (headOf K b h l) s t.val l.val else ⊥

theorem masked_at (Q K : FVec Ideal S4x8192x384 .f32) (P : IVec S4x8192x6x32 32) (b : Fin 4) (h : Fin 6) (t l : Fin 8192) (s : ℝ)
    (hs : slopeOf h.val = (s : EReal)) : masked Q K P (ix4 b h t l) = ref Q K P s b h t l := by
  unfold masked slopes
  simp only [id_eq]
  pointwise
  rw [seen_at P _ (ix4 b t h ⟨l.val / 256, by omega⟩) rfl rfl rfl rfl]
  unfold ref score
  rw [lit_bot, real_word_sub _ _ t.isLt l.isLt, EReal.coe_mul, ← hs, lit_eighth]
  congr 3

theorem attn_at (Q K V : FVec Ideal S4x8192x384 .f32) (P : IVec S4x8192x6x32 32) (b : Fin 4) (h : Fin 6) (t : Fin 8192) (d : Fin 64) (s : ℝ)
    (hs : slopeOf h.val = (s : EReal)) (z : S4x8192x384.Idx) (h0 : (z 0).val = b.val) (h1 : (z 1).val = t.val) (h2 : (z 2).val = h.val * 64 + d.val) :
    ∃ M, IsMax (ref Q K P s b h t) M ∧ attn Q K V P z =
      ∑ l, Ideal.exp (ref Q K P s b h t l - M) * Ideal.div 1 (∑ l, Ideal.exp (ref Q K P s b h t l - M)) * headOf V b h l d := by
  have hg : greatest Q K P (ix3 b h t) = (Finset.univ : Finset (Fin 8192)).fold max ⊥ (ref Q K P s b h t) := by
    pointwise [greatest]
    rw [lit_bot]
    exact congrArg (fun f => (Finset.univ : Finset (Fin 8192)).fold max ⊥ f) (funext fun l => masked_at Q K P b h t l s hs)
  have hz : z = ix3 b t ⟨h.val * 64 + d.val, by omega⟩ := by
    funext i; apply Fin.ext; fin_cases i
    · exact h0
    · exact h1
    · exact h2
  refine ⟨_, isMax_fold _, ?_⟩
  rw [← hg, hz]
  have hd : (h.val * 64 + d.val) / 64 = h.val := by omega
  pointwise [attn, probs, expd]
  refine Fin.sum_fin_congr fun l => ?_
  simp only [masked_at Q K P b h t _ s hs]
  exact mul_comm _ _
variable (m : (ℓ : Loc nD τ sig) → Buf (Elt Ideal) ℓ)

theorem result_eq (c : Dev nD) : Cert.ReferenceIdeal.Value.res_main_v60 m c =
    attn (m ((c.tc : Thread nD τ).loc main_arg0)) (m ((c.tc : Thread nD τ).loc main_arg1)) (m ((c.tc : Thread nD τ).loc main_arg2))
      (m ((c.tc : Thread nD τ).loc main_arg3)) := by
  unfold Cert.ReferenceIdeal.Value.res_main_v60 attn probs expd greatest masked slopes seen rowBlock keyBlock
  rfl

end Cert.AttnRef

end
-- ==== Proof.Attn.Value.lean ====
/- The attention's output after the run is the reference's: each head's walk over its blocks, and the output's blocks. -/
module

public import proofs.«01_k».proof.Proof.Attn.Scored
public import proofs.«01_k».proof.Proof.Attn.HostQ
public import proofs.«01_k».proof.Proof.Attn.HostK
public import proofs.«01_k».proof.Proof.Attn.HostV
public import proofs.«01_k».proof.Proof.Attn.Ref
public import Idealize.ShloMosaic.Lib.Pipeline.ReadBack
public import Idealize.ShloMosaic.Lib.Pipeline.ValueKit

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Where each window's block starts. -/
theorem idx : ∀ t : Fin cfg0.N, win0_0.index t = ![t.val / 96, t.val / 32 % 3, t.val % 32, 0] ∧ win0_1.index t = ![t.val / 96, t.val / 32 % 3, 0, 0]
    ∧ win0_2.index t = ![t.val / 96, t.val / 32 % 3, 0, 0] ∧ win0_3.index t = ![t.val / 96, t.val % 32, t.val / 32 % 3] ∧ (grid0.coords t 2).val = t.val % 32 :=
  (by decide +kernel : ∀ t : Fin grid0.N, _)

theorem q_read (c : Dev nD) (t : Fin cfg0.N) (hh : Fin 2) (r : Fin 256) (l : Fin 128) (z : S4x6x8192x128.Idx)
    (h0 : (z 0 : ℕ) = t.val / 96) (h1 : (z 1 : ℕ) = 2 * (t.val / 32 % 3) + hh) (h2 : (z 2 : ℕ) = 256 * (t.val % 32) + r) (h3 : (z 3 : ℕ) = l) :
    iblk m c 0 t (ix4 0 hh r l) = V m c main_v65 z := by
  blk_point [iblk, idx t]

theorem k_read (c : Dev nD) (t : Fin cfg0.N) (hh : Fin 2) (j : Fin 8192) (l : Fin 128) (z : S4x6x8192x128.Idx)
    (h0 : (z 0 : ℕ) = t.val / 96) (h1 : (z 1 : ℕ) = 2 * (t.val / 32 % 3) + hh) (h2 : (z 2 : ℕ) = j) (h3 : (z 3 : ℕ) = l) :
    iblk m c 1 t (ix4 0 hh j l) = V m c main_v66 z := by
  blk_point [iblk, idx t]

theorem v_read (c : Dev nD) (t : Fin cfg0.N) (hh : Fin 2) (j : Fin 8192) (l : Fin 128) (z : S4x6x8192x128.Idx)
    (h0 : (z 0 : ℕ) = t.val / 96) (h1 : (z 1 : ℕ) = 2 * (t.val / 32 % 3) + hh) (h2 : (z 2 : ℕ) = j) (h3 : (z 3 : ℕ) = l) :
    iblk m c 2 t (ix4 0 hh j l) = V m c main_v67 z := by
  blk_point [iblk, idx t]

/-- One head's walk, over its weights, is the reference's, once the blocks it reads are laid out in lanes. -/
theorem head_of (x0 : Vec Ideal S1x2x256x128 .bf16) (x1 x2 : Vec Ideal S1x2x8192x128 .bf16) (g : Fin 32) (hh : Fin 2) (r : Fin 256)
    (Q K W : FVec Ideal S4x8192x384 .f32) (P : IVec S4x8192x6x32 32) (b : Fin 4) (h : Fin 6) (T : Fin 8192) (hT : T.val = 256 * g.val + r.val)
    (s : ℝ) (hs : slopeOf h.val = (s : EReal)) (d : Fin 64) (z : S4x8192x384.Idx)
    (h0 : (z 0 : ℕ) = b.val) (h1 : (z 1 : ℕ) = T.val) (h2 : (z 2 : ℕ) = h.val * 64 + d.val)
    (hL : ∀ j : Fin 8192, Lanes (AttnRef.headOf Q b h T) (AttnRef.headOf K b h j) (fun x => qLanes x0 hh r ⟨64 + x.val, by omega⟩) (blockOf j) s j.val
      (qLanes x0 hh r) (kLanes hh x1 j))
    (hb : ∀ x : Fin 32, qLanes x0 hh r ⟨64 + x.val, by omega⟩ = open Classical in if P (ix4 b T h x) ≠ 0#32 ∧ x.val < g.val then 0 else ⊥)
    (hv : ∀ j, kLanes hh x2 j 64 = 1) (hw : ∀ j, kLanes hh x2 j ⟨d.val, by omega⟩ = AttnRef.headOf W b h j d) :
    acc x0 x1 x2 g hh ((g.val - 1) / 8 + 1) (ix3 0 r ⟨d.val, by omega⟩) * Ideal.div 1 (acc x0 x1 x2 g hh ((g.val - 1) / 8 + 1) (ix3 0 r 64))
      = AttnRef.attn Q K W P z := by
  obtain ⟨M, hM, e⟩ := AttnRef.attn_at Q K W P b h T d s hs z h0 h1 h2
  rw [e]
  refine (walk_out x0 x1 x2 g hh r (pick := fun x => P (ix4 b T h x) ≠ 0#32) T.val hT hL (fun x => (hb x).trans ?_) hM (fun j => ?_) hv ⟨d.val, by omega⟩).trans ?_
  · by_cases hc : P (ix4 b T h x) ≠ 0#32 ∧ x.val < g.val
    · rw [if_pos hc]; exact (if_pos hc).symm
    · rw [if_neg hc]; exact (if_neg hc).symm
  · rw [AttnRef.ref]
    by_cases hc : Sees T.val j.val (P (ix4 b T h (blockOf j)) ≠ 0#32)
    · rw [if_pos hc]; exact if_pos hc
    · rw [if_neg hc]; exact if_neg hc
  exact Finset.sum_congr rfl fun l _ => by rw [hw]

section
variable (c : Dev nD) (t : Fin cfg0.N) (hh : Fin 2) (r : Fin 256)

theorem hN : t.val < 384 := t.isLt
/-- The point's sequence, its head and its query. -/
def seqOf : Fin 4 := ⟨t.val / 96, by have := hN t; omega⟩
def headNo : Fin 6 := ⟨2 * (t.val / 32 % 3) + hh.val, by have := hh.isLt; omega⟩
def rowOf : Fin 8192 := ⟨256 * (t.val % 32) + r.val, by have := r.isLt; omega⟩

theorem q_lanes (l : Fin 128) : qLanes (iblk m c 0 t) hh r l = V m c main_v65 (ix4 (seqOf t) (headNo t hh) (rowOf t r) l) :=
  q_read m c t hh r l _ rfl rfl rfl rfl
theorem k_lanes (j : Fin 8192) (l : Fin 128) : kLanes hh (iblk m c 1 t) j l = V m c main_v66 (ix4 (seqOf t) (headNo t hh) j l) :=
  k_read m c t hh j l _ rfl rfl rfl rfl
theorem v_lanes (j : Fin 8192) (l : Fin 128) : kLanes hh (iblk m c 2 t) j l = V m c main_v67 (ix4 (seqOf t) (headNo t hh) j l) :=
  v_read m c t hh j l _ rfl rfl rfl rfl

/-- The arguments. -/
def aQ : FVec Ideal S4x8192x384 .f32 := m (c, Proc.tc.devRef main_arg0)
def aK : FVec Ideal S4x8192x384 .f32 := m (c, Proc.tc.devRef main_arg1)
def aV : FVec Ideal S4x8192x384 .f32 := m (c, Proc.tc.devRef main_arg2)
def aP : IVec S4x8192x6x32 32 := m (c, Proc.tc.devRef main_arg3)

theorem lanes_q (x : Fin 64) : qLanes (iblk m c 0 t) hh r ⟨x.val, by omega⟩ =
    AttnRef.headOf (aQ m c) (seqOf t) (headNo t hh) (rowOf t r) x * (((1 / 8 : ℝ) : EReal) * (octave : EReal)) := by
  rw [q_lanes m c t hh r, q_low m c _ _ _ _ x.isLt]; unfold AttnRef.headOf aQ; rfl
theorem lanes_k (j : Fin 8192) (x : Fin 64) : kLanes hh (iblk m c 1 t) j ⟨x.val, by omega⟩ = AttnRef.headOf (aK m c) (seqOf t) (headNo t hh) j x := by
  rw [k_lanes m c t hh j, k_low m c _ _ _ _ x.isLt]; unfold AttnRef.headOf aK; rfl
theorem lanes_v (j : Fin 8192) (x : Fin 64) : kLanes hh (iblk m c 2 t) j ⟨x.val, by omega⟩ = AttnRef.headOf (aV m c) (seqOf t) (headNo t hh) j x := by
  rw [v_lanes m c t hh j, v_low m c _ _ _ _ x.isLt]; unfold AttnRef.headOf aV; rfl
theorem lanes_block (j : Fin 8192) (x : Fin 32) : kLanes hh (iblk m c 1 t) j ⟨64 + x.val, by omega⟩ = if x = blockOf j then 1 else 0 := by
  rw [k_lanes m c t hh j, k_block]
  by_cases hx : x.val = j.val / 256
  · rw [if_pos hx, if_pos (Fin.ext hx)]
  · rw [if_neg hx, if_neg fun e => hx (congrArg Fin.val e)]
theorem lanes_bias (g : Fin 32) (hg : g.val = t.val % 32) (x : Fin 32) : qLanes (iblk m c 0 t) hh r ⟨64 + x.val, by omega⟩ =
    open Classical in if aP m c (ix4 (seqOf t) (rowOf t r) (headNo t hh) x) ≠ 0#32 ∧ x.val < g.val then 0 else ⊥ := by
  rw [q_lanes m c t hh r, q_bias]
  have e : (rowOf t r).val / 256 = g.val := by show (256 * (t.val % 32) + r.val) / 256 = g.val; omega
  rw [e]; unfold aP; rfl
theorem lanes_one : qLanes (iblk m c 0 t) hh r ⟨96, by omega⟩ = 1 := by
  rw [q_lanes m c t hh r]; exact q_one m c _ _ _
theorem lanes_vone (j : Fin 8192) : kLanes hh (iblk m c 2 t) j 64 = 1 := by
  rw [v_lanes m c t hh j]; exact v_one m c _ _ _
theorem lanes_slope (j : Fin 8192) (s : ℝ) (hs : slopeOf (headNo t hh).val = (s : EReal)) :
    kLanes hh (iblk m c 1 t) j ⟨96, by omega⟩ = ((s * octave * j.val : ℝ) : EReal) := by
  rw [k_lanes m c t hh j]; exact k_slope m c _ _ _ s hs
theorem lanes_zero (j : Fin 8192) (s : ℝ) (hs : slopeOf (headNo t hh).val = (s : EReal)) (x : Fin 128) (hx : 97 ≤ x.val) :
    kLanes hh (iblk m c 1 t) j x = 0 := by
  rw [k_lanes m c t hh j]; exact k_zero m c _ _ _ s hs x hx

/-- One head's walk of a query block, over its weights, is the reference's. -/
theorem head_value (d : Fin 64) (z : S4x8192x384.Idx)
    (h0 : (z 0 : ℕ) = t.val / 96) (h1 : (z 1 : ℕ) = 256 * (t.val % 32) + r) (h2 : (z 2 : ℕ) = (2 * (t.val / 32 % 3) + hh) * 64 + d) (g : Fin 32)
    (hg : g.val = t.val % 32) :
    acc (iblk m c 0 t) (iblk m c 1 t) (iblk m c 2 t) g hh ((g.val - 1) / 8 + 1) (ix3 0 r ⟨d.val, by omega⟩) *
      Ideal.div 1 (acc (iblk m c 0 t) (iblk m c 1 t) (iblk m c 2 t) g hh ((g.val - 1) / 8 + 1) (ix3 0 r 64)) =
      AttnRef.attn (aQ m c) (aK m c) (aV m c) (aP m c) z := by
  obtain ⟨s, hs⟩ := slope_real (headNo t hh).val
  exact head_of (iblk m c 0 t) (iblk m c 1 t) (iblk m c 2 t) g hh r (aQ m c) (aK m c) (aV m c) (aP m c) (seqOf t) (headNo t hh) (rowOf t r)
    (by show 256 * (t.val % 32) + r.val = _; rw [hg]) s hs d z h0 h1 h2
    (fun j => ⟨lanes_q m c t hh r, lanes_k m c t hh j, fun x => rfl, lanes_block m c t hh j, lanes_one m c t hh r, lanes_slope m c t hh j s hs, lanes_zero m c t hh j s hs⟩)
    (lanes_bias m c t hh r g hg) (lanes_vone m c t hh) (fun j => lanes_v m c t hh j d)
end

/-- The block a point leaves is the reference's. -/
theorem block_value (c : Dev nD) (t : Fin cfg0.N) (y : S1x256x128.Idx) (z : S4x8192x384.Idx)
    (h0 : (z 0 : ℕ) = t.val / 96) (h1 : (z 1 : ℕ) = 256 * (t.val % 32) + y 1) (h2 : (z 2 : ℕ) = 128 * (t.val / 32 % 3) + y 2) :
    blockOut m c t y = AttnRef.attn (aQ m c) (aK m c) (aV m c) (aP m c) z := by
  have hg := (idx t).2.2.2.2
  have hy : y = ix3 0 (y 1) (y 2) := by
    funext i; fin_cases i
    · exact Subsingleton.elim (α := Fin 1) _ _
    · rfl
    · rfl
  have hy2 : (y 2).val < 128 := (y 2).isLt
  rw [hy]
  unfold blockOut outBlock
  by_cases hd : (y 2).val < 64
  · refine (out_low _ _ (y 1) (y 2) hd).trans ?_
    exact head_value m c t 0 (y 1) ⟨(y 2).val, hd⟩ z h0 h1 (by show (z 2 : ℕ) = (2 * (t.val / 32 % 3) + 0) * 64 + (y 2).val; omega) _ hg
  · refine (out_high _ _ (y 1) (y 2) ⟨(y 2).val - 64, by omega⟩ (by show (y 2).val = (y 2).val - 64 + 64; omega)).trans ?_
    exact head_value m c t 1 (y 1) ⟨(y 2).val - 64, by omega⟩ z h0 h1 (by show (z 2 : ℕ) = (2 * (t.val / 32 % 3) + 1) * 64 + ((y 2).val - 64); omega) _ hg

/-- The output after the run is the reference's. -/
theorem final (c : Dev nD) : (dats m 0 c).arrAt 3 (cfgs 0).N = AttnRef.attn (aQ m c) (aK m c) (aV m c) (aP m c) := by
  refine (dats m 0 c).arrAt_eq_of_covers 3 _ (by decide +kernel) fun t hf y => ?_
  blk_simp
  rw [left3 m c t]
  refine block_value m c t y _ ?_ ?_ ?_ <;> blk_simp [idx t] <;> try omega

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.ReferenceIdeal.Run
public import proofs.«01_k».proof.Proof.Gen.Kernel2Ideal.Value
public import proofs.«01_k».proof.Proof.Gen.Reference2Ideal.Run
public import proofs.«01_k».proof.Proof.PostValue
public import proofs.«01_k».proof.Proof.Attn.FrameBits
public import proofs.«01_k».proof.Proof.Attn.Value
public import Idealize.ShloMosaic.Adequacy
public import Idealize.ShloMosaic.Init

@[expose] public section

set_option maxRecDepth 16384

noncomputable section

namespace Cert.Proof

open Idealize.ShloMosaic Idealize.SL.Sem Cert.Kernel

set_option maxHeartbeats 1000000 in
/-- The attention kernel leaves the reference's output. -/
theorem attention : Cert.algebraic_KernelIdeal_ReferenceIdeal := by
  pair_intro
  · run_from Cert.Attn.run_frame m g
    all_goals
      simp only [Cert.KernelIdeal.Gen.hostOps0, Cert.KernelIdeal.Gen.hostOps0_1, Cert.KernelIdeal.Gen.hostOps0_2, Cert.KernelIdeal.Gen.hostOps0_3,
        Cert.KernelIdeal.Gen.hostOps0_4, Cert.KernelIdeal.Gen.hostOps0_5, Cert.KernelIdeal.Gen.hostOps0_6, List.flatten_cons, List.flatten_nil,
        List.append_nil, List.cons_append, List.nil_append]
      after_results
  · run_from Cert.ReferenceIdeal.Value.run m' g'
    · rw [Cert.Attn.final m c, Cert.AttnRef.result_eq m' c]
      obtain ⟨a0, a1, a2, a3⟩ := hagree c
      rw [a0, a1, a2, a3]
      rfl

set_option maxHeartbeats 1000000 in
/-- The second kernel leaves its reference's three outputs. -/
theorem post : Cert.algebraic_Kernel2Ideal_Reference2Ideal := by
  pair_intro
  · run_from Cert.Kernel2Ideal.Gen.run_main m g
  · run_from Cert.Reference2Ideal.Value.run m' g'
    · rw [Cert.PostValue.final_y m c]
      obtain ⟨a0, a1, a2, a3, a4, a5, a6, a7, a8, a9⟩ := hagree c
      unfold Cert.Reference2Ideal.Value.res_main_v58
      rw [a0, a1, a2, a3, a5, a6, a7, a8, a9]
      unfold Cert.PostRef.down Cert.PostPoint.Act Cert.PostRef.act Cert.PostPoint.Cv Cert.PostRef.conv Cert.PostRef.ext Cert.PostPoint.Up
        Cert.PostRef.up Cert.PostPoint.Nrm Cert.PostRef.normed Cert.PostPoint.H Cert.PostRef.hid
      with_reducible rfl
    · rw [Cert.PostValue.final_tail m c, (hagree c).2.1, (hagree c).2.2.1, (hagree c).2.2.2.1]
      unfold Cert.PostRef.tail Cert.PostPoint.Up Cert.PostRef.up Cert.PostPoint.Nrm Cert.PostRef.normed Cert.PostPoint.H Cert.PostRef.hid
      with_reducible rfl
    · rw [Cert.PostValue.final_pages m c]
      unfold Cert.PostRef.pages
      with_reducible rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  fun m g _ => Cert.AttnBits.quiet m g,
  fun m g _ => Cert.Attn.quiet m g,
  fun m g _ => (θ_run Cert.ReferenceIdeal.defs _ _).mono (fun r h => ⟨fun c => (h c).2, sem_eq_zero_of_no_sems (by decide) r.2⟩)
    (Cert.ReferenceIdeal.Value.run m g),
  fun m g _ => Cert.Kernel2.Gen.frame m g,
  fun m g _ => Cert.Kernel2Ideal.Gen.frame m g,
  fun m g _ => (θ_run Cert.Reference2Ideal.defs _ _).mono (fun r h => ⟨fun c => (h c).2.2.2, sem_eq_zero_of_no_sems (by decide) r.2⟩)
    (Cert.Reference2Ideal.Value.run m g),
  IdealRules.named_const.statement Cert.KernelIdeal.κ "minus_inf" .f32 0xF149F2CA#32 ⊥ rfl,
  attention, trivial, post⟩

end Cert.Proof

end
